-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S65536x512 : Shape := ⟨2, ![65536, 512]⟩
abbrev S16384x4x512 : Shape := ⟨3, ![16384, 4, 512]⟩
abbrev S16384x512x4 : Shape := ⟨3, ![16384, 512, 4]⟩
abbrev S16384x512 : Shape := ⟨2, ![16384, 512]⟩
abbrev S4096x512 : Shape := ⟨2, ![4096, 512]⟩
abbrev S2x64x512 : Shape := ⟨3, ![2, 64, 512]⟩
abbrev S2x16x512 : Shape := ⟨3, ![2, 16, 512]⟩
abbrev S2 : Shape := ⟨1, ![2]⟩
abbrev S1x64x512 : Shape := ⟨3, ![1, 64, 512]⟩
abbrev S64x512 : Shape := ⟨2, ![64, 512]⟩
abbrev S1 : Shape := ⟨1, ![1]⟩
abbrev S_ : Shape := ⟨0, ![]⟩
abbrev S1x16x512 : Shape := ⟨3, ![1, 16, 512]⟩
abbrev S16x512 : Shape := ⟨2, ![16, 512]⟩
abbrev S16 : Shape := ⟨1, ![16]⟩
abbrev S1x1x16 : Shape := ⟨3, ![1, 1, 16]⟩

abbrev nBuf : Table → Nat
  | .hbm => 12
  | .local .tc .vmem => 6
  | .local .scVector .vmem => 2
  | _ => 0

abbrev bufTy : (tb : Table) → Fin (nBuf tb) → BufTy
  | .hbm, ⟨0, _⟩ => ⟨S65536x512, .f32⟩
  | .hbm, ⟨1, _⟩ => ⟨S65536x512, .i1⟩
  | .hbm, ⟨2, _⟩ => ⟨S65536x512, .i8⟩
  | .hbm, ⟨3, _⟩ => ⟨S65536x512, .i8⟩
  | .hbm, ⟨4, _⟩ => ⟨S16384x4x512, .i8⟩
  | .hbm, ⟨5, _⟩ => ⟨S16384x512x4, .i8⟩
  | .hbm, ⟨6, _⟩ => ⟨S16384x512, .i32⟩
  | .hbm, ⟨7, _⟩ => ⟨S4096x512, .f32⟩
  | .hbm, ⟨8, _⟩ => ⟨S65536x512, .f32⟩
  | .hbm, ⟨9, _⟩ => ⟨S_, .i32⟩
  | .hbm, ⟨10, _⟩ => ⟨S_, .i32⟩
  | .hbm, ⟨11, _⟩ => ⟨S65536x512, .f32⟩
  | .local .tc .vmem, ⟨0, _⟩ => ⟨S4096x512, .f32⟩
  | .local .tc .vmem, ⟨1, _⟩ => ⟨S4096x512, .f32⟩
  | .local .tc .vmem, ⟨2, _⟩ => ⟨S4096x512, .i8⟩
  | .local .tc .vmem, ⟨3, _⟩ => ⟨S4096x512, .i8⟩
  | .local .tc .vmem, ⟨4, _⟩ => ⟨S4096x512, .f32⟩
  | .local .tc .vmem, ⟨5, _⟩ => ⟨S4096x512, .f32⟩
  | .local .scVector .vmem, ⟨0, _⟩ => ⟨S2x64x512, .f32⟩
  | .local .scVector .vmem, ⟨1, _⟩ => ⟨S2x16x512, .i32⟩
  | _, _ => ⟨S65536x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_c_0 : Ref sig .tc := ⟨.hbm, 10, rfl⟩
abbrev main_v7 : Ref sig .tc := ⟨.hbm, 11, rfl⟩
abbrev main_arg0_scv : Ref sig .scVector := ⟨.hbm, 0, rfl⟩
abbrev main_v4_scv : Ref sig .scVector := ⟨.hbm, 6, rfl⟩
abbrev main_v5_scv : Ref sig .scVector := ⟨.hbm, 7, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c61440_i32 : BitVec 32 := 61440#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c61440_i32 v2
  let c0_i32 : BitVec 32 := 0#32
  let v5 : BitVec 32 := Scalar.addi v3 c0_i32
  let c0_i32_5 : BitVec 32 := 0#32
  ![v5.toNat, 0]
def k0_mult1 (i : grid0.Coords) : BitVec 32 :=
  let c61440_i32 : BitVec 32 := 61440#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c61440_i32 v2
  let c0_i32 : BitVec 32 := 0#32
  let v5 : BitVec 32 := Scalar.addi v3 c0_i32
  let c0_i32_9 : BitVec 32 := 0#32
  let v15 : BitVec 1 := Scalar.cmpi .sgt v5 c0_i32_9
  let v16 : BitVec 32 := Scalar.extui v15
  let c0_i32_10 : BitVec 32 := 0#32
  let v17 : BitVec 1 := Scalar.cmpi .slt v5 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v5 c4_i32
  let c0_i32_13 : BitVec 32 := 0#32
  let v27 : BitVec 1 := Scalar.cmpi .ne v26 c0_i32_13
  let v28 : BitVec 1 := Scalar.andi v25 v27
  let v14 : BitVec 32 := Scalar.divsi v5 c4_i32
  let c1_i32 : BitVec 32 := 1#32
  let v29 : BitVec 32 := Scalar.subi v14 c1_i32
  let v30 : BitVec 32 := Scalar.select v28 v29 v14
  v30
def k0_off2 (i : grid0.Coords) : Fin 2 → Nat :=
  let c61440_i32 : BitVec 32 := 61440#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c61440_i32 v2
  let c0_i32 : BitVec 32 := 0#32
  let v5 : BitVec 32 := Scalar.addi v3 c0_i32
  let c0_i32_9 : BitVec 32 := 0#32
  let v15 : BitVec 1 := Scalar.cmpi .sgt v5 c0_i32_9
  let v16 : BitVec 32 := Scalar.extui v15
  let c0_i32_10 : BitVec 32 := 0#32
  let v17 : BitVec 1 := Scalar.cmpi .slt v5 c0_i32_10
  let v18 : BitVec 32 := Scalar.extui v17
  let v19 : BitVec 32 := Scalar.subi v16 v18
  let c4_i32 : BitVec 32 := 4#32
  let c0_i32_11 : BitVec 32 := 0#32
  let v20 : BitVec 1 := Scalar.cmpi .sgt c4_i32 c0_i32_11
  let v21 : BitVec 32 := Scalar.extui v20
  let c0_i32_12 : BitVec 32 := 0#32
  let v22 : BitVec 1 := Scalar.cmpi .slt c4_i32 c0_i32_12
  let v23 : BitVec 32 := Scalar.extui v22
  let v24 : BitVec 32 := Scalar.subi v21 v23
  let v25 : BitVec 1 := Scalar.cmpi .ne v19 v24
  let v26 : BitVec 32 := Scalar.remsi v5 c4_i32
  let c0_i32_13 : BitVec 32 := 0#32
  let v27 : BitVec 1 := Scalar.cmpi .ne v26 c0_i32_13
  let v28 : BitVec 1 := Scalar.andi v25 v27
  let v14 : BitVec 32 := Scalar.divsi v5 c4_i32
  let c1_i32 : BitVec 32 := 1#32
  let v29 : BitVec 32 := Scalar.subi v14 c1_i32
  let v30 : BitVec 32 := Scalar.select v28 v29 v14
  let v31 : BitVec 32 := v30
  let c0_i32_18 : BitVec 32 := 0#32
  ![v31.toNat, 0]
def k0_off3 (i : grid0.Coords) : Fin 2 → Nat :=
  let c61440_i32 : BitVec 32 := 61440#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c61440_i32 v2
  let c2_i32_25 : BitVec 32 := 2#32
  let c0_i32_23 : BitVec 32 := 0#32
  let v41 : BitVec 32 := Scalar.muli c2_i32_25 c0_i32_23
  let c1_i32_26 : BitVec 32 := 1#32
  let v42 : BitVec 32 := Scalar.addi v41 c1_i32_26
  let c64_i32 : BitVec 32 := 64#32
  let v46 : BitVec 32 := Scalar.muli v42 c64_i32
  let v47 : BitVec 32 := Scalar.addi v3 v46
  let c0_i32_33 : BitVec 32 := 0#32
  ![v47.toNat, 0]
def k0_mult2 (i : grid0.Coords) : BitVec 32 :=
  let c61440_i32 : BitVec 32 := 61440#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c61440_i32 v2
  let c2_i32_25 : BitVec 32 := 2#32
  let c0_i32_23 : BitVec 32 := 0#32
  let v41 : BitVec 32 := Scalar.muli c2_i32_25 c0_i32_23
  let c1_i32_26 : BitVec 32 := 1#32
  let v42 : BitVec 32 := Scalar.addi v41 c1_i32_26
  let c64_i32 : BitVec 32 := 64#32
  let v46 : BitVec 32 := Scalar.muli v42 c64_i32
  let v47 : BitVec 32 := Scalar.addi v3 v46
  let c0_i32_38 : BitVec 32 := 0#32
  let v57 : BitVec 1 := Scalar.cmpi .sgt v47 c0_i32_38
  let v58 : BitVec 32 := Scalar.extui v57
  let c0_i32_39 : BitVec 32 := 0#32
  let v59 : BitVec 1 := Scalar.cmpi .slt v47 c0_i32_39
  let v60 : BitVec 32 := Scalar.extui v59
  let v61 : BitVec 32 := Scalar.subi v58 v60
  let c4_i32_37 : BitVec 32 := 4#32
  let c0_i32_40 : BitVec 32 := 0#32
  let v62 : BitVec 1 := Scalar.cmpi .sgt c4_i32_37 c0_i32_40
  let v63 : BitVec 32 := Scalar.extui v62
  let c0_i32_41 : BitVec 32 := 0#32
  let v64 : BitVec 1 := Scalar.cmpi .slt c4_i32_37 c0_i32_41
  let v65 : BitVec 32 := Scalar.extui v64
  let v66 : BitVec 32 := Scalar.subi v63 v65
  let v67 : BitVec 1 := Scalar.cmpi .ne v61 v66
  let v68 : BitVec 32 := Scalar.remsi v47 c4_i32_37
  let c0_i32_42 : BitVec 32 := 0#32
  let v69 : BitVec 1 := Scalar.cmpi .ne v68 c0_i32_42
  let v70 : BitVec 1 := Scalar.andi v67 v69
  let v56 : BitVec 32 := Scalar.divsi v47 c4_i32_37
  let c1_i32_43 : BitVec 32 := 1#32
  let v71 : BitVec 32 := Scalar.subi v56 c1_i32_43
  let v72 : BitVec 32 := Scalar.select v70 v71 v56
  v72
def k0_off4 (i : grid0.Coords) : Fin 2 → Nat :=
  let c61440_i32 : BitVec 32 := 61440#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c61440_i32 v2
  let c2_i32_25 : BitVec 32 := 2#32
  let c0_i32_23 : BitVec 32 := 0#32
  let v41 : BitVec 32 := Scalar.muli c2_i32_25 c0_i32_23
  let c1_i32_26 : BitVec 32 := 1#32
  let v42 : BitVec 32 := Scalar.addi v41 c1_i32_26
  let c64_i32 : BitVec 32 := 64#32
  let v46 : BitVec 32 := Scalar.muli v42 c64_i32
  let v47 : BitVec 32 := Scalar.addi v3 v46
  let c0_i32_38 : BitVec 32 := 0#32
  let v57 : BitVec 1 := Scalar.cmpi .sgt v47 c0_i32_38
  let v58 : BitVec 32 := Scalar.extui v57
  let c0_i32_39 : BitVec 32 := 0#32
  let v59 : BitVec 1 := Scalar.cmpi .slt v47 c0_i32_39
  let v60 : BitVec 32 := Scalar.extui v59
  let v61 : BitVec 32 := Scalar.subi v58 v60
  let c4_i32_37 : BitVec 32 := 4#32
  let c0_i32_40 : BitVec 32 := 0#32
  let v62 : BitVec 1 := Scalar.cmpi .sgt c4_i32_37 c0_i32_40
  let v63 : BitVec 32 := Scalar.extui v62
  let c0_i32_41 : BitVec 32 := 0#32
  let v64 : BitVec 1 := Scalar.cmpi .slt c4_i32_37 c0_i32_41
  let v65 : BitVec 32 := Scalar.extui v64
  let v66 : BitVec 32 := Scalar.subi v63 v65
  let v67 : BitVec 1 := Scalar.cmpi .ne v61 v66
  let v68 : BitVec 32 := Scalar.remsi v47 c4_i32_37
  let c0_i32_42 : BitVec 32 := 0#32
  let v69 : BitVec 1 := Scalar.cmpi .ne v68 c0_i32_42
  let v70 : BitVec 1 := Scalar.andi v67 v69
  let v56 : BitVec 32 := Scalar.divsi v47 c4_i32_37
  let c1_i32_43 : BitVec 32 := 1#32
  let v71 : BitVec 32 := Scalar.subi v56 c1_i32_43
  let v72 : BitVec 32 := Scalar.select v70 v71 v56
  let v73 : BitVec 32 := v72
  let c0_i32_48 : BitVec 32 := 0#32
  ![v73.toNat, 0]
@[reducible] def k0_t1_loop : Scf.Loop 32 :=
  let c0_i32_73 : BitVec 32 := 0#32
  let c16_i32 : BitVec 32 := 16#32
  let v98 : BitVec 32 := Scalar.addi c0_i32_73 c16_i32
  let c1_i32_74 : BitVec 32 := 1#32
  ⟨c0_i32_73, v98, c1_i32_74⟩
def k0_off5 (k0_t1 : Fin k0_t1_loop.trips) : Fin 3 → Nat :=
  let c0_i32_143 : BitVec 32 := 0#32
  let v157 : Index := Scalar.indexCast c0_i32_143
  let c0_i32_73 : BitVec 32 := 0#32
  let c1_i32_74 : BitVec 32 := 1#32
  let arg10 : BitVec 32 := Scf.iv c0_i32_73 c1_i32_74 k0_t1
  let v158 : Index := Scalar.indexCast arg10
  let c0 : Index := 0#32
  ![0, v158.toNat, 0]
def k0_off6 (k0_t1 : Fin k0_t1_loop.trips) (c0_i32_147 : BitVec 32) : Fin 3 → Nat :=
  let c0_i32_148 : BitVec 32 := 0#32
  let v167 : Index := Scalar.indexCast c0_i32_148
  let c0_i32_73 : BitVec 32 := 0#32
  let c1_i32_74 : BitVec 32 := 1#32
  let arg10 : BitVec 32 := Scf.iv c0_i32_73 c1_i32_74 k0_t1
  let c4_i32_146 : BitVec 32 := 4#32
  let v165 : BitVec 32 := Scalar.muli arg10 c4_i32_146
  let v166 : BitVec 32 := Scalar.addi v165 c0_i32_147
  let v168 : Index := Scalar.indexCast v166
  let c0_149 : Index := 0#32
  ![0, v168.toNat, 0]
def k0_off7 (k0_t1 : Fin k0_t1_loop.trips) : Fin 3 → Nat :=
  let c0_i32_181 : BitVec 32 := 0#32
  let v224 : Index := Scalar.indexCast c0_i32_181
  let c0_i32_73 : BitVec 32 := 0#32
  let c1_i32_74 : BitVec 32 := 1#32
  let arg10 : BitVec 32 := Scf.iv c0_i32_73 c1_i32_74 k0_t1
  let v225 : Index := Scalar.indexCast arg10
  let c16 : Index := 16#32
  ![0, v225.toNat, 16]
def k0_off8 (k0_t1 : Fin k0_t1_loop.trips) (c0_i32_185 : BitVec 32) : Fin 3 → Nat :=
  let c0_i32_186 : BitVec 32 := 0#32
  let v234 : Index := Scalar.indexCast c0_i32_186
  let c0_i32_73 : BitVec 32 := 0#32
  let c1_i32_74 : BitVec 32 := 1#32
  let arg10 : BitVec 32 := Scf.iv c0_i32_73 c1_i32_74 k0_t1
  let c4_i32_184 : BitVec 32 := 4#32
  let v232 : BitVec 32 := Scalar.muli arg10 c4_i32_184
  let v233 : BitVec 32 := Scalar.addi v232 c0_i32_185
  let v235 : Index := Scalar.indexCast v233
  let c16_187 : Index := 16#32
  ![0, v235.toNat, 16]
def k0_off9 (k0_t1 : Fin k0_t1_loop.trips) : Fin 3 → Nat :=
  let c0_i32_222 : BitVec 32 := 0#32
  let v291 : Index := Scalar.indexCast c0_i32_222
  let c0_i32_73 : BitVec 32 := 0#32
  let c1_i32_74 : BitVec 32 := 1#32
  let arg10 : BitVec 32 := Scf.iv c0_i32_73 c1_i32_74 k0_t1
  let v292 : Index := Scalar.indexCast arg10
  let c32 : Index := 32#32
  ![0, v292.toNat, 32]
def k0_off10 (k0_t1 : Fin k0_t1_loop.trips) (c0_i32_226 : BitVec 32) : Fin 3 → Nat :=
  let c0_i32_227 : BitVec 32 := 0#32
  let v301 : Index := Scalar.indexCast c0_i32_227
  let c0_i32_73 : BitVec 32 := 0#32
  let c1_i32_74 : BitVec 32 := 1#32
  let arg10 : BitVec 32 := Scf.iv c0_i32_73 c1_i32_74 k0_t1
  let c4_i32_225 : BitVec 32 := 4#32
  let v299 : BitVec 32 := Scalar.muli arg10 c4_i32_225
  let v300 : BitVec 32 := Scalar.addi v299 c0_i32_226
  let v302 : Index := Scalar.indexCast v300
  let c32_228 : Index := 32#32
  ![0, v302.toNat, 32]
def k0_off11 (k0_t1 : Fin k0_t1_loop.trips) : Fin 3 → Nat :=
  let c0_i32_263 : BitVec 32 := 0#32
  let v358 : Index := Scalar.indexCast c0_i32_263
  let c0_i32_73 : BitVec 32 := 0#32
  let c1_i32_74 : BitVec 32 := 1#32
  let arg10 : BitVec 32 := Scf.iv c0_i32_73 c1_i32_74 k0_t1
  let v359 : Index := Scalar.indexCast arg10
  let c48 : Index := 48#32
  ![0, v359.toNat, 48]
def k0_off12 (k0_t1 : Fin k0_t1_loop.trips) (c0_i32_267 : BitVec 32) : Fin 3 → Nat :=
  let c0_i32_268 : BitVec 32 := 0#32
  let v368 : Index := Scalar.indexCast c0_i32_268
  let c0_i32_73 : BitVec 32 := 0#32
  let c1_i32_74 : BitVec 32 := 1#32
  let arg10 : BitVec 32 := Scf.iv c0_i32_73 c1_i32_74 k0_t1
  let c4_i32_266 : BitVec 32 := 4#32
  let v366 : BitVec 32 := Scalar.muli arg10 c4_i32_266
  let v367 : BitVec 32 := Scalar.addi v366 c0_i32_267
  let v369 : Index := Scalar.indexCast v367
  let c48_269 : Index := 48#32
  ![0, v369.toNat, 48]
def k0_off13 (k0_t1 : Fin k0_t1_loop.trips) : Fin 3 → Nat :=
  let c0_i32_304 : BitVec 32 := 0#32
  let v425 : Index := Scalar.indexCast c0_i32_304
  let c0_i32_73 : BitVec 32 := 0#32
  let c1_i32_74 : BitVec 32 := 1#32
  let arg10 : BitVec 32 := Scf.iv c0_i32_73 c1_i32_74 k0_t1
  let v426 : Index := Scalar.indexCast arg10
  let c64 : Index := 64#32
  ![0, v426.toNat, 64]
def k0_off14 (k0_t1 : Fin k0_t1_loop.trips) (c0_i32_308 : BitVec 32) : Fin 3 → Nat :=
  let c0_i32_309 : BitVec 32 := 0#32
  let v435 : Index := Scalar.indexCast c0_i32_309
  let c0_i32_73 : BitVec 32 := 0#32
  let c1_i32_74 : BitVec 32 := 1#32
  let arg10 : BitVec 32 := Scf.iv c0_i32_73 c1_i32_74 k0_t1
  let c4_i32_307 : BitVec 32 := 4#32
  let v433 : BitVec 32 := Scalar.muli arg10 c4_i32_307
  let v434 : BitVec 32 := Scalar.addi v433 c0_i32_308
  let v436 : Index := Scalar.indexCast v434
  let c64_310 : Index := 64#32
  ![0, v436.toNat, 64]
def k0_off15 (k0_t1 : Fin k0_t1_loop.trips) : Fin 3 → Nat :=
  let c0_i32_345 : BitVec 32 := 0#32
  let v492 : Index := Scalar.indexCast c0_i32_345
  let c0_i32_73 : BitVec 32 := 0#32
  let c1_i32_74 : BitVec 32 := 1#32
  let arg10 : BitVec 32 := Scf.iv c0_i32_73 c1_i32_74 k0_t1
  let v493 : Index := Scalar.indexCast arg10
  let c80 : Index := 80#32
  ![0, v493.toNat, 80]
def k0_off16 (k0_t1 : Fin k0_t1_loop.trips) (c0_i32_349 : BitVec 32) : Fin 3 → Nat :=
  let c0_i32_350 : BitVec 32 := 0#32
  let v502 : Index := Scalar.indexCast c0_i32_350
  let c0_i32_73 : BitVec 32 := 0#32
  let c1_i32_74 : BitVec 32 := 1#32
  let arg10 : BitVec 32 := Scf.iv c0_i32_73 c1_i32_74 k0_t1
  let c4_i32_348 : BitVec 32 := 4#32
  let v500 : BitVec 32 := Scalar.muli arg10 c4_i32_348
  let v501 : BitVec 32 := Scalar.addi v500 c0_i32_349
  let v503 : Index := Scalar.indexCast v501
  let c80_351 : Index := 80#32
  ![0, v503.toNat, 80]
def k0_off17 (k0_t1 : Fin k0_t1_loop.trips) : Fin 3 → Nat :=
  let c0_i32_386 : BitVec 32 := 0#32
  let v559 : Index := Scalar.indexCast c0_i32_386
  let c0_i32_73 : BitVec 32 := 0#32
  let c1_i32_74 : BitVec 32 := 1#32
  let arg10 : BitVec 32 := Scf.iv c0_i32_73 c1_i32_74 k0_t1
  let v560 : Index := Scalar.indexCast arg10
  let c96 : Index := 96#32
  ![0, v560.toNat, 96]
def k0_off18 (k0_t1 : Fin k0_t1_loop.trips) (c0_i32_390 : BitVec 32) : Fin 3 → Nat :=
  let c0_i32_391 : BitVec 32 := 0#32
  let v569 : Index := Scalar.indexCast c0_i32_391
  let c0_i32_73 : BitVec 32 := 0#32
  let c1_i32_74 : BitVec 32 := 1#32
  let arg10 : BitVec 32 := Scf.iv c0_i32_73 c1_i32_74 k0_t1
  let c4_i32_389 : BitVec 32 := 4#32
  let v567 : BitVec 32 := Scalar.muli arg10 c4_i32_389
  let v568 : BitVec 32 := Scalar.addi v567 c0_i32_390
  let v570 : Index := Scalar.indexCast v568
  let c96_392 : Index := 96#32
  ![0, v570.toNat, 96]
def k0_off19 (k0_t1 : Fin k0_t1_loop.trips) : Fin 3 → Nat :=
  let c0_i32_427 : BitVec 32 := 0#32
  let v626 : Index := Scalar.indexCast c0_i32_427
  let c0_i32_73 : BitVec 32 := 0#32
  let c1_i32_74 : BitVec 32 := 1#32
  let arg10 : BitVec 32 := Scf.iv c0_i32_73 c1_i32_74 k0_t1
  let v627 : Index := Scalar.indexCast arg10
  let c112 : Index := 112#32
  ![0, v627.toNat, 112]
def k0_off20 (k0_t1 : Fin k0_t1_loop.trips) (c0_i32_431 : BitVec 32) : Fin 3 → Nat :=
  let c0_i32_432 : BitVec 32 := 0#32
  let v636 : Index := Scalar.indexCast c0_i32_432
  let c0_i32_73 : BitVec 32 := 0#32
  let c1_i32_74 : BitVec 32 := 1#32
  let arg10 : BitVec 32 := Scf.iv c0_i32_73 c1_i32_74 k0_t1
  let c4_i32_430 : BitVec 32 := 4#32
  let v634 : BitVec 32 := Scalar.muli arg10 c4_i32_430
  let v635 : BitVec 32 := Scalar.addi v634 c0_i32_431
  let v637 : Index := Scalar.indexCast v635
  let c112_433 : Index := 112#32
  ![0, v637.toNat, 112]
def k0_off21 (k0_t1 : Fin k0_t1_loop.trips) : Fin 3 → Nat :=
  let c0_i32_468 : BitVec 32 := 0#32
  let v693 : Index := Scalar.indexCast c0_i32_468
  let c0_i32_73 : BitVec 32 := 0#32
  let c1_i32_74 : BitVec 32 := 1#32
  let arg10 : BitVec 32 := Scf.iv c0_i32_73 c1_i32_74 k0_t1
  let v694 : Index := Scalar.indexCast arg10
  let c128 : Index := 128#32
  ![0, v694.toNat, 128]
def k0_off22 (k0_t1 : Fin k0_t1_loop.trips) (c0_i32_472 : BitVec 32) : Fin 3 → Nat :=
  let c0_i32_473 : BitVec 32 := 0#32
  let v703 : Index := Scalar.indexCast c0_i32_473
  let c0_i32_73 : BitVec 32 := 0#32
  let c1_i32_74 : BitVec 32 := 1#32
  let arg10 : BitVec 32 := Scf.iv c0_i32_73 c1_i32_74 k0_t1
  let c4_i32_471 : BitVec 32 := 4#32
  let v701 : BitVec 32 := Scalar.muli arg10 c4_i32_471
  let v702 : BitVec 32 := Scalar.addi v701 c0_i32_472
  let v704 : Index := Scalar.indexCast v702
  let c128_474 : Index := 128#32
  ![0, v704.toNat, 128]
def k0_off23 (k0_t1 : Fin k0_t1_loop.trips) : Fin 3 → Nat :=
  let c0_i32_509 : BitVec 32 := 0#32
  let v760 : Index := Scalar.indexCast c0_i32_509
  let c0_i32_73 : BitVec 32 := 0#32
  let c1_i32_74 : BitVec 32 := 1#32
  let arg10 : BitVec 32 := Scf.iv c0_i32_73 c1_i32_74 k0_t1
  let v761 : Index := Scalar.indexCast arg10
  let c144 : Index := 144#32
  ![0, v761.toNat, 144]
def k0_off24 (k0_t1 : Fin k0_t1_loop.trips) (c0_i32_513 : BitVec 32) : Fin 3 → Nat :=
  let c0_i32_514 : BitVec 32 := 0#32
  let v770 : Index := Scalar.indexCast c0_i32_514
  let c0_i32_73 : BitVec 32 := 0#32
  let c1_i32_74 : BitVec 32 := 1#32
  let arg10 : BitVec 32 := Scf.iv c0_i32_73 c1_i32_74 k0_t1
  let c4_i32_512 : BitVec 32 := 4#32
  let v768 : BitVec 32 := Scalar.muli arg10 c4_i32_512
  let v769 : BitVec 32 := Scalar.addi v768 c0_i32_513
  let v771 : Index := Scalar.indexCast v769
  let c144_515 : Index := 144#32
  ![0, v771.toNat, 144]
def k0_off25 (k0_t1 : Fin k0_t1_loop.trips) : Fin 3 → Nat :=
  let c0_i32_550 : BitVec 32 := 0#32
  let v827 : Index := Scalar.indexCast c0_i32_550
  let c0_i32_73 : BitVec 32 := 0#32
  let c1_i32_74 : BitVec 32 := 1#32
  let arg10 : BitVec 32 := Scf.iv c0_i32_73 c1_i32_74 k0_t1
  let v828 : Index := Scalar.indexCast arg10
  let c160 : Index := 160#32
  ![0, v828.toNat, 160]
def k0_off26 (k0_t1 : Fin k0_t1_loop.trips) (c0_i32_554 : BitVec 32) : Fin 3 → Nat :=
  let c0_i32_555 : BitVec 32 := 0#32
  let v837 : Index := Scalar.indexCast c0_i32_555
  let c0_i32_73 : BitVec 32 := 0#32
  let c1_i32_74 : BitVec 32 := 1#32
  let arg10 : BitVec 32 := Scf.iv c0_i32_73 c1_i32_74 k0_t1
  let c4_i32_553 : BitVec 32 := 4#32
  let v835 : BitVec 32 := Scalar.muli arg10 c4_i32_553
  let v836 : BitVec 32 := Scalar.addi v835 c0_i32_554
  let v838 : Index := Scalar.indexCast v836
  let c160_556 : Index := 160#32
  ![0, v838.toNat, 160]
def k0_off27 (k0_t1 : Fin k0_t1_loop.trips) : Fin 3 → Nat :=
  let c0_i32_591 : BitVec 32 := 0#32
  let v894 : Index := Scalar.indexCast c0_i32_591
  let c0_i32_73 : BitVec 32 := 0#32
  let c1_i32_74 : BitVec 32 := 1#32
  let arg10 : BitVec 32 := Scf.iv c0_i32_73 c1_i32_74 k0_t1
  let v895 : Index := Scalar.indexCast arg10
  let c176 : Index := 176#32
  ![0, v895.toNat, 176]
def k0_off28 (k0_t1 : Fin k0_t1_loop.trips) (c0_i32_595 : BitVec 32) : Fin 3 → Nat :=
  let c0_i32_596 : BitVec 32 := 0#32
  let v904 : Index := Scalar.indexCast c0_i32_596
  let c0_i32_73 : BitVec 32 := 0#32
  let c1_i32_74 : BitVec 32 := 1#32
  let arg10 : BitVec 32 := Scf.iv c0_i32_73 c1_i32_74 k0_t1
  let c4_i32_594 : BitVec 32 := 4#32
  let v902 : BitVec 32 := Scalar.muli arg10 c4_i32_594
  let v903 : BitVec 32 := Scalar.addi v902 c0_i32_595
  let v905 : Index := Scalar.indexCast v903
  let c176_597 : Index := 176#32
  ![0, v905.toNat, 176]
def k0_off29 (k0_t1 : Fin k0_t1_loop.trips) : Fin 3 → Nat :=
  let c0_i32_632 : BitVec 32 := 0#32
  let v961 : Index := Scalar.indexCast c0_i32_632
  let c0_i32_73 : BitVec 32 := 0#32
  let c1_i32_74 : BitVec 32 := 1#32
  let arg10 : BitVec 32 := Scf.iv c0_i32_73 c1_i32_74 k0_t1
  let v962 : Index := Scalar.indexCast arg10
  let c192 : Index := 192#32
  ![0, v962.toNat, 192]
def k0_off30 (k0_t1 : Fin k0_t1_loop.trips) (c0_i32_636 : BitVec 32) : Fin 3 → Nat :=
  let c0_i32_637 : BitVec 32 := 0#32
  let v971 : Index := Scalar.indexCast c0_i32_637
  let c0_i32_73 : BitVec 32 := 0#32
  let c1_i32_74 : BitVec 32 := 1#32
  let arg10 : BitVec 32 := Scf.iv c0_i32_73 c1_i32_74 k0_t1
  let c4_i32_635 : BitVec 32 := 4#32
  let v969 : BitVec 32 := Scalar.muli arg10 c4_i32_635
  let v970 : BitVec 32 := Scalar.addi v969 c0_i32_636
  let v972 : Index := Scalar.indexCast v970
  let c192_638 : Index := 192#32
  ![0, v972.toNat, 192]
def k0_off31 (k0_t1 : Fin k0_t1_loop.trips) : Fin 3 → Nat :=
  let c0_i32_673 : BitVec 32 := 0#32
  let v1028 : Index := Scalar.indexCast c0_i32_673
  let c0_i32_73 : BitVec 32 := 0#32
  let c1_i32_74 : BitVec 32 := 1#32
  let arg10 : BitVec 32 := Scf.iv c0_i32_73 c1_i32_74 k0_t1
  let v1029 : Index := Scalar.indexCast arg10
  let c208 : Index := 208#32
  ![0, v1029.toNat, 208]
def k0_off32 (k0_t1 : Fin k0_t1_loop.trips) (c0_i32_677 : BitVec 32) : Fin 3 → Nat :=
  let c0_i32_678 : BitVec 32 := 0#32
  let v1038 : Index := Scalar.indexCast c0_i32_678
  let c0_i32_73 : BitVec 32 := 0#32
  let c1_i32_74 : BitVec 32 := 1#32
  let arg10 : BitVec 32 := Scf.iv c0_i32_73 c1_i32_74 k0_t1
  let c4_i32_676 : BitVec 32 := 4#32
  let v1036 : BitVec 32 := Scalar.muli arg10 c4_i32_676
  let v1037 : BitVec 32 := Scalar.addi v1036 c0_i32_677
  let v1039 : Index := Scalar.indexCast v1037
  let c208_679 : Index := 208#32
  ![0, v1039.toNat, 208]
def k0_off33 (k0_t1 : Fin k0_t1_loop.trips) : Fin 3 → Nat :=
  let c0_i32_714 : BitVec 32 := 0#32
  let v1095 : Index := Scalar.indexCast c0_i32_714
  let c0_i32_73 : BitVec 32 := 0#32
  let c1_i32_74 : BitVec 32 := 1#32
  let arg10 : BitVec 32 := Scf.iv c0_i32_73 c1_i32_74 k0_t1
  let v1096 : Index := Scalar.indexCast arg10
  let c224 : Index := 224#32
  ![0, v1096.toNat, 224]
def k0_off34 (k0_t1 : Fin k0_t1_loop.trips) (c0_i32_718 : BitVec 32) : Fin 3 → Nat :=
  let c0_i32_719 : BitVec 32 := 0#32
  let v1105 : Index := Scalar.indexCast c0_i32_719
  let c0_i32_73 : BitVec 32 := 0#32
  let c1_i32_74 : BitVec 32 := 1#32
  let arg10 : BitVec 32 := Scf.iv c0_i32_73 c1_i32_74 k0_t1
  let c4_i32_717 : BitVec 32 := 4#32
  let v1103 : BitVec 32 := Scalar.muli arg10 c4_i32_717
  let v1104 : BitVec 32 := Scalar.addi v1103 c0_i32_718
  let v1106 : Index := Scalar.indexCast v1104
  let c224_720 : Index := 224#32
  ![0, v1106.toNat, 224]
def k0_off35 (k0_t1 : Fin k0_t1_loop.trips) : Fin 3 → Nat :=
  let c0_i32_755 : BitVec 32 := 0#32
  let v1162 : Index := Scalar.indexCast c0_i32_755
  let c0_i32_73 : BitVec 32 := 0#32
  let c1_i32_74 : BitVec 32 := 1#32
  let arg10 : BitVec 32 := Scf.iv c0_i32_73 c1_i32_74 k0_t1
  let v1163 : Index := Scalar.indexCast arg10
  let c240 : Index := 240#32
  ![0, v1163.toNat, 240]
def k0_off36 (k0_t1 : Fin k0_t1_loop.trips) (c0_i32_759 : BitVec 32) : Fin 3 → Nat :=
  let c0_i32_760 : BitVec 32 := 0#32
  let v1172 : Index := Scalar.indexCast c0_i32_760
  let c0_i32_73 : BitVec 32 := 0#32
  let c1_i32_74 : BitVec 32 := 1#32
  let arg10 : BitVec 32 := Scf.iv c0_i32_73 c1_i32_74 k0_t1
  let c4_i32_758 : BitVec 32 := 4#32
  let v1170 : BitVec 32 := Scalar.muli arg10 c4_i32_758
  let v1171 : BitVec 32 := Scalar.addi v1170 c0_i32_759
  let v1173 : Index := Scalar.indexCast v1171
  let c240_761 : Index := 240#32
  ![0, v1173.toNat, 240]
def k0_off37 (k0_t1 : Fin k0_t1_loop.trips) : Fin 3 → Nat :=
  let c0_i32_796 : BitVec 32 := 0#32
  let v1229 : Index := Scalar.indexCast c0_i32_796
  let c0_i32_73 : BitVec 32 := 0#32
  let c1_i32_74 : BitVec 32 := 1#32
  let arg10 : BitVec 32 := Scf.iv c0_i32_73 c1_i32_74 k0_t1
  let v1230 : Index := Scalar.indexCast arg10
  let c256 : Index := 256#32
  ![0, v1230.toNat, 256]
def k0_off38 (k0_t1 : Fin k0_t1_loop.trips) (c0_i32_800 : BitVec 32) : Fin 3 → Nat :=
  let c0_i32_801 : BitVec 32 := 0#32
  let v1239 : Index := Scalar.indexCast c0_i32_801
  let c0_i32_73 : BitVec 32 := 0#32
  let c1_i32_74 : BitVec 32 := 1#32
  let arg10 : BitVec 32 := Scf.iv c0_i32_73 c1_i32_74 k0_t1
  let c4_i32_799 : BitVec 32 := 4#32
  let v1237 : BitVec 32 := Scalar.muli arg10 c4_i32_799
  let v1238 : BitVec 32 := Scalar.addi v1237 c0_i32_800
  let v1240 : Index := Scalar.indexCast v1238
  let c256_802 : Index := 256#32
  ![0, v1240.toNat, 256]
def k0_off39 (k0_t1 : Fin k0_t1_loop.trips) : Fin 3 → Nat :=
  let c0_i32_837 : BitVec 32 := 0#32
  let v1296 : Index := Scalar.indexCast c0_i32_837
  let c0_i32_73 : BitVec 32 := 0#32
  let c1_i32_74 : BitVec 32 := 1#32
  let arg10 : BitVec 32 := Scf.iv c0_i32_73 c1_i32_74 k0_t1
  let v1297 : Index := Scalar.indexCast arg10
  let c272 : Index := 272#32
  ![0, v1297.toNat, 272]
def k0_off40 (k0_t1 : Fin k0_t1_loop.trips) (c0_i32_841 : BitVec 32) : Fin 3 → Nat :=
  let c0_i32_842 : BitVec 32 := 0#32
  let v1306 : Index := Scalar.indexCast c0_i32_842
  let c0_i32_73 : BitVec 32 := 0#32
  let c1_i32_74 : BitVec 32 := 1#32
  let arg10 : BitVec 32 := Scf.iv c0_i32_73 c1_i32_74 k0_t1
  let c4_i32_840 : BitVec 32 := 4#32
  let v1304 : BitVec 32 := Scalar.muli arg10 c4_i32_840
  let v1305 : BitVec 32 := Scalar.addi v1304 c0_i32_841
  let v1307 : Index := Scalar.indexCast v1305
  let c272_843 : Index := 272#32
  ![0, v1307.toNat, 272]
def k0_off41 (k0_t1 : Fin k0_t1_loop.trips) : Fin 3 → Nat :=
  let c0_i32_878 : BitVec 32 := 0#32
  let v1363 : Index := Scalar.indexCast c0_i32_878
  let c0_i32_73 : BitVec 32 := 0#32
  let c1_i32_74 : BitVec 32 := 1#32
  let arg10 : BitVec 32 := Scf.iv c0_i32_73 c1_i32_74 k0_t1
  let v1364 : Index := Scalar.indexCast arg10
  let c288 : Index := 288#32
  ![0, v1364.toNat, 288]
def k0_off42 (k0_t1 : Fin k0_t1_loop.trips) (c0_i32_882 : BitVec 32) : Fin 3 → Nat :=
  let c0_i32_883 : BitVec 32 := 0#32
  let v1373 : Index := Scalar.indexCast c0_i32_883
  let c0_i32_73 : BitVec 32 := 0#32
  let c1_i32_74 : BitVec 32 := 1#32
  let arg10 : BitVec 32 := Scf.iv c0_i32_73 c1_i32_74 k0_t1
  let c4_i32_881 : BitVec 32 := 4#32
  let v1371 : BitVec 32 := Scalar.muli arg10 c4_i32_881
  let v1372 : BitVec 32 := Scalar.addi v1371 c0_i32_882
  let v1374 : Index := Scalar.indexCast v1372
  let c288_884 : Index := 288#32
  ![0, v1374.toNat, 288]
def k0_off43 (k0_t1 : Fin k0_t1_loop.trips) : Fin 3 → Nat :=
  let c0_i32_919 : BitVec 32 := 0#32
  let v1430 : Index := Scalar.indexCast c0_i32_919
  let c0_i32_73 : BitVec 32 := 0#32
  let c1_i32_74 : BitVec 32 := 1#32
  let arg10 : BitVec 32 := Scf.iv c0_i32_73 c1_i32_74 k0_t1
  let v1431 : Index := Scalar.indexCast arg10
  let c304 : Index := 304#32
  ![0, v1431.toNat, 304]
def k0_off44 (k0_t1 : Fin k0_t1_loop.trips) (c0_i32_923 : BitVec 32) : Fin 3 → Nat :=
  let c0_i32_924 : BitVec 32 := 0#32
  let v1440 : Index := Scalar.indexCast c0_i32_924
  let c0_i32_73 : BitVec 32 := 0#32
  let c1_i32_74 : BitVec 32 := 1#32
  let arg10 : BitVec 32 := Scf.iv c0_i32_73 c1_i32_74 k0_t1
  let c4_i32_922 : BitVec 32 := 4#32
  let v1438 : BitVec 32 := Scalar.muli arg10 c4_i32_922
  let v1439 : BitVec 32 := Scalar.addi v1438 c0_i32_923
  let v1441 : Index := Scalar.indexCast v1439
  let c304_925 : Index := 304#32
  ![0, v1441.toNat, 304]
def k0_off45 (k0_t1 : Fin k0_t1_loop.trips) : Fin 3 → Nat :=
  let c0_i32_960 : BitVec 32 := 0#32
  let v1497 : Index := Scalar.indexCast c0_i32_960
  let c0_i32_73 : BitVec 32 := 0#32
  let c1_i32_74 : BitVec 32 := 1#32
  let arg10 : BitVec 32 := Scf.iv c0_i32_73 c1_i32_74 k0_t1
  let v1498 : Index := Scalar.indexCast arg10
  let c320 : Index := 320#32
  ![0, v1498.toNat, 320]
def k0_off46 (k0_t1 : Fin k0_t1_loop.trips) (c0_i32_964 : BitVec 32) : Fin 3 → Nat :=
  let c0_i32_965 : BitVec 32 := 0#32
  let v1507 : Index := Scalar.indexCast c0_i32_965
  let c0_i32_73 : BitVec 32 := 0#32
  let c1_i32_74 : BitVec 32 := 1#32
  let arg10 : BitVec 32 := Scf.iv c0_i32_73 c1_i32_74 k0_t1
  let c4_i32_963 : BitVec 32 := 4#32
  let v1505 : BitVec 32 := Scalar.muli arg10 c4_i32_963
  let v1506 : BitVec 32 := Scalar.addi v1505 c0_i32_964
  let v1508 : Index := Scalar.indexCast v1506
  let c320_966 : Index := 320#32
  ![0, v1508.toNat, 320]
def k0_off47 (k0_t1 : Fin k0_t1_loop.trips) : Fin 3 → Nat :=
  let c0_i32_1001 : BitVec 32 := 0#32
  let v1564 : Index := Scalar.indexCast c0_i32_1001
  let c0_i32_73 : BitVec 32 := 0#32
  let c1_i32_74 : BitVec 32 := 1#32
  let arg10 : BitVec 32 := Scf.iv c0_i32_73 c1_i32_74 k0_t1
  let v1565 : Index := Scalar.indexCast arg10
  let c336 : Index := 336#32
  ![0, v1565.toNat, 336]
def k0_off48 (k0_t1 : Fin k0_t1_loop.trips) (c0_i32_1005 : BitVec 32) : Fin 3 → Nat :=
  let c0_i32_1006 : BitVec 32 := 0#32
  let v1574 : Index := Scalar.indexCast c0_i32_1006
  let c0_i32_73 : BitVec 32 := 0#32
  let c1_i32_74 : BitVec 32 := 1#32
  let arg10 : BitVec 32 := Scf.iv c0_i32_73 c1_i32_74 k0_t1
  let c4_i32_1004 : BitVec 32 := 4#32
  let v1572 : BitVec 32 := Scalar.muli arg10 c4_i32_1004
  let v1573 : BitVec 32 := Scalar.addi v1572 c0_i32_1005
  let v1575 : Index := Scalar.indexCast v1573
  let c336_1007 : Index := 336#32
  ![0, v1575.toNat, 336]
def k0_off49 (k0_t1 : Fin k0_t1_loop.trips) : Fin 3 → Nat :=
  let c0_i32_1042 : BitVec 32 := 0#32
  let v1631 : Index := Scalar.indexCast c0_i32_1042
  let c0_i32_73 : BitVec 32 := 0#32
  let c1_i32_74 : BitVec 32 := 1#32
  let arg10 : BitVec 32 := Scf.iv c0_i32_73 c1_i32_74 k0_t1
  let v1632 : Index := Scalar.indexCast arg10
  let c352 : Index := 352#32
  ![0, v1632.toNat, 352]
def k0_off50 (k0_t1 : Fin k0_t1_loop.trips) (c0_i32_1046 : BitVec 32) : Fin 3 → Nat :=
  let c0_i32_1047 : BitVec 32 := 0#32
  let v1641 : Index := Scalar.indexCast c0_i32_1047
  let c0_i32_73 : BitVec 32 := 0#32
  let c1_i32_74 : BitVec 32 := 1#32
  let arg10 : BitVec 32 := Scf.iv c0_i32_73 c1_i32_74 k0_t1
  let c4_i32_1045 : BitVec 32 := 4#32
  let v1639 : BitVec 32 := Scalar.muli arg10 c4_i32_1045
  let v1640 : BitVec 32 := Scalar.addi v1639 c0_i32_1046
  let v1642 : Index := Scalar.indexCast v1640
  let c352_1048 : Index := 352#32
  ![0, v1642.toNat, 352]
def k0_off51 (k0_t1 : Fin k0_t1_loop.trips) : Fin 3 → Nat :=
  let c0_i32_1083 : BitVec 32 := 0#32
  let v1698 : Index := Scalar.indexCast c0_i32_1083
  let c0_i32_73 : BitVec 32 := 0#32
  let c1_i32_74 : BitVec 32 := 1#32
  let arg10 : BitVec 32 := Scf.iv c0_i32_73 c1_i32_74 k0_t1
  let v1699 : Index := Scalar.indexCast arg10
  let c368 : Index := 368#32
  ![0, v1699.toNat, 368]
def k0_off52 (k0_t1 : Fin k0_t1_loop.trips) (c0_i32_1087 : BitVec 32) : Fin 3 → Nat :=
  let c0_i32_1088 : BitVec 32 := 0#32
  let v1708 : Index := Scalar.indexCast c0_i32_1088
  let c0_i32_73 : BitVec 32 := 0#32
  let c1_i32_74 : BitVec 32 := 1#32
  let arg10 : BitVec 32 := Scf.iv c0_i32_73 c1_i32_74 k0_t1
  let c4_i32_1086 : BitVec 32 := 4#32
  let v1706 : BitVec 32 := Scalar.muli arg10 c4_i32_1086
  let v1707 : BitVec 32 := Scalar.addi v1706 c0_i32_1087
  let v1709 : Index := Scalar.indexCast v1707
  let c368_1089 : Index := 368#32
  ![0, v1709.toNat, 368]
def k0_off53 (k0_t1 : Fin k0_t1_loop.trips) : Fin 3 → Nat :=
  let c0_i32_1124 : BitVec 32 := 0#32
  let v1765 : Index := Scalar.indexCast c0_i32_1124
  let c0_i32_73 : BitVec 32 := 0#32
  let c1_i32_74 : BitVec 32 := 1#32
  let arg10 : BitVec 32 := Scf.iv c0_i32_73 c1_i32_74 k0_t1
  let v1766 : Index := Scalar.indexCast arg10
  let c384 : Index := 384#32
  ![0, v1766.toNat, 384]
def k0_off54 (k0_t1 : Fin k0_t1_loop.trips) (c0_i32_1128 : BitVec 32) : Fin 3 → Nat :=
  let c0_i32_1129 : BitVec 32 := 0#32
  let v1775 : Index := Scalar.indexCast c0_i32_1129
  let c0_i32_73 : BitVec 32 := 0#32
  let c1_i32_74 : BitVec 32 := 1#32
  let arg10 : BitVec 32 := Scf.iv c0_i32_73 c1_i32_74 k0_t1
  let c4_i32_1127 : BitVec 32 := 4#32
  let v1773 : BitVec 32 := Scalar.muli arg10 c4_i32_1127
  let v1774 : BitVec 32 := Scalar.addi v1773 c0_i32_1128
  let v1776 : Index := Scalar.indexCast v1774
  let c384_1130 : Index := 384#32
  ![0, v1776.toNat, 384]
def k0_off55 (k0_t1 : Fin k0_t1_loop.trips) : Fin 3 → Nat :=
  let c0_i32_1165 : BitVec 32 := 0#32
  let v1832 : Index := Scalar.indexCast c0_i32_1165
  let c0_i32_73 : BitVec 32 := 0#32
  let c1_i32_74 : BitVec 32 := 1#32
  let arg10 : BitVec 32 := Scf.iv c0_i32_73 c1_i32_74 k0_t1
  let v1833 : Index := Scalar.indexCast arg10
  let c400 : Index := 400#32
  ![0, v1833.toNat, 400]
def k0_off56 (k0_t1 : Fin k0_t1_loop.trips) (c0_i32_1169 : BitVec 32) : Fin 3 → Nat :=
  let c0_i32_1170 : BitVec 32 := 0#32
  let v1842 : Index := Scalar.indexCast c0_i32_1170
  let c0_i32_73 : BitVec 32 := 0#32
  let c1_i32_74 : BitVec 32 := 1#32
  let arg10 : BitVec 32 := Scf.iv c0_i32_73 c1_i32_74 k0_t1
  let c4_i32_1168 : BitVec 32 := 4#32
  let v1840 : BitVec 32 := Scalar.muli arg10 c4_i32_1168
  let v1841 : BitVec 32 := Scalar.addi v1840 c0_i32_1169
  let v1843 : Index := Scalar.indexCast v1841
  let c400_1171 : Index := 400#32
  ![0, v1843.toNat, 400]
def k0_off57 (k0_t1 : Fin k0_t1_loop.trips) : Fin 3 → Nat :=
  let c0_i32_1206 : BitVec 32 := 0#32
  let v1899 : Index := Scalar.indexCast c0_i32_1206
  let c0_i32_73 : BitVec 32 := 0#32
  let c1_i32_74 : BitVec 32 := 1#32
  let arg10 : BitVec 32 := Scf.iv c0_i32_73 c1_i32_74 k0_t1
  let v1900 : Index := Scalar.indexCast arg10
  let c416 : Index := 416#32
  ![0, v1900.toNat, 416]
def k0_off58 (k0_t1 : Fin k0_t1_loop.trips) (c0_i32_1210 : BitVec 32) : Fin 3 → Nat :=
  let c0_i32_1211 : BitVec 32 := 0#32
  let v1909 : Index := Scalar.indexCast c0_i32_1211
  let c0_i32_73 : BitVec 32 := 0#32
  let c1_i32_74 : BitVec 32 := 1#32
  let arg10 : BitVec 32 := Scf.iv c0_i32_73 c1_i32_74 k0_t1
  let c4_i32_1209 : BitVec 32 := 4#32
  let v1907 : BitVec 32 := Scalar.muli arg10 c4_i32_1209
  let v1908 : BitVec 32 := Scalar.addi v1907 c0_i32_1210
  let v1910 : Index := Scalar.indexCast v1908
  let c416_1212 : Index := 416#32
  ![0, v1910.toNat, 416]
def k0_off59 (k0_t1 : Fin k0_t1_loop.trips) : Fin 3 → Nat :=
  let c0_i32_1247 : BitVec 32 := 0#32
  let v1966 : Index := Scalar.indexCast c0_i32_1247
  let c0_i32_73 : BitVec 32 := 0#32
  let c1_i32_74 : BitVec 32 := 1#32
  let arg10 : BitVec 32 := Scf.iv c0_i32_73 c1_i32_74 k0_t1
  let v1967 : Index := Scalar.indexCast arg10
  let c432 : Index := 432#32
  ![0, v1967.toNat, 432]
def k0_off60 (k0_t1 : Fin k0_t1_loop.trips) (c0_i32_1251 : BitVec 32) : Fin 3 → Nat :=
  let c0_i32_1252 : BitVec 32 := 0#32
  let v1976 : Index := Scalar.indexCast c0_i32_1252
  let c0_i32_73 : BitVec 32 := 0#32
  let c1_i32_74 : BitVec 32 := 1#32
  let arg10 : BitVec 32 := Scf.iv c0_i32_73 c1_i32_74 k0_t1
  let c4_i32_1250 : BitVec 32 := 4#32
  let v1974 : BitVec 32 := Scalar.muli arg10 c4_i32_1250
  let v1975 : BitVec 32 := Scalar.addi v1974 c0_i32_1251
  let v1977 : Index := Scalar.indexCast v1975
  let c432_1253 : Index := 432#32
  ![0, v1977.toNat, 432]
def k0_off61 (k0_t1 : Fin k0_t1_loop.trips) : Fin 3 → Nat :=
  let c0_i32_1288 : BitVec 32 := 0#32
  let v2033 : Index := Scalar.indexCast c0_i32_1288
  let c0_i32_73 : BitVec 32 := 0#32
  let c1_i32_74 : BitVec 32 := 1#32
  let arg10 : BitVec 32 := Scf.iv c0_i32_73 c1_i32_74 k0_t1
  let v2034 : Index := Scalar.indexCast arg10
  let c448 : Index := 448#32
  ![0, v2034.toNat, 448]
def k0_off62 (k0_t1 : Fin k0_t1_loop.trips) (c0_i32_1292 : BitVec 32) : Fin 3 → Nat :=
  let c0_i32_1293 : BitVec 32 := 0#32
  let v2043 : Index := Scalar.indexCast c0_i32_1293
  let c0_i32_73 : BitVec 32 := 0#32
  let c1_i32_74 : BitVec 32 := 1#32
  let arg10 : BitVec 32 := Scf.iv c0_i32_73 c1_i32_74 k0_t1
  let c4_i32_1291 : BitVec 32 := 4#32
  let v2041 : BitVec 32 := Scalar.muli arg10 c4_i32_1291
  let v2042 : BitVec 32 := Scalar.addi v2041 c0_i32_1292
  let v2044 : Index := Scalar.indexCast v2042
  let c448_1294 : Index := 448#32
  ![0, v2044.toNat, 448]
def k0_off63 (k0_t1 : Fin k0_t1_loop.trips) : Fin 3 → Nat :=
  let c0_i32_1329 : BitVec 32 := 0#32
  let v2100 : Index := Scalar.indexCast c0_i32_1329
  let c0_i32_73 : BitVec 32 := 0#32
  let c1_i32_74 : BitVec 32 := 1#32
  let arg10 : BitVec 32 := Scf.iv c0_i32_73 c1_i32_74 k0_t1
  let v2101 : Index := Scalar.indexCast arg10
  let c464 : Index := 464#32
  ![0, v2101.toNat, 464]
def k0_off64 (k0_t1 : Fin k0_t1_loop.trips) (c0_i32_1333 : BitVec 32) : Fin 3 → Nat :=
  let c0_i32_1334 : BitVec 32 := 0#32
  let v2110 : Index := Scalar.indexCast c0_i32_1334
  let c0_i32_73 : BitVec 32 := 0#32
  let c1_i32_74 : BitVec 32 := 1#32
  let arg10 : BitVec 32 := Scf.iv c0_i32_73 c1_i32_74 k0_t1
  let c4_i32_1332 : BitVec 32 := 4#32
  let v2108 : BitVec 32 := Scalar.muli arg10 c4_i32_1332
  let v2109 : BitVec 32 := Scalar.addi v2108 c0_i32_1333
  let v2111 : Index := Scalar.indexCast v2109
  let c464_1335 : Index := 464#32
  ![0, v2111.toNat, 464]
def k0_off65 (k0_t1 : Fin k0_t1_loop.trips) : Fin 3 → Nat :=
  let c0_i32_1370 : BitVec 32 := 0#32
  let v2167 : Index := Scalar.indexCast c0_i32_1370
  let c0_i32_73 : BitVec 32 := 0#32
  let c1_i32_74 : BitVec 32 := 1#32
  let arg10 : BitVec 32 := Scf.iv c0_i32_73 c1_i32_74 k0_t1
  let v2168 : Index := Scalar.indexCast arg10
  let c480 : Index := 480#32
  ![0, v2168.toNat, 480]
def k0_off66 (k0_t1 : Fin k0_t1_loop.trips) (c0_i32_1374 : BitVec 32) : Fin 3 → Nat :=
  let c0_i32_1375 : BitVec 32 := 0#32
  let v2177 : Index := Scalar.indexCast c0_i32_1375
  let c0_i32_73 : BitVec 32 := 0#32
  let c1_i32_74 : BitVec 32 := 1#32
  let arg10 : BitVec 32 := Scf.iv c0_i32_73 c1_i32_74 k0_t1
  let c4_i32_1373 : BitVec 32 := 4#32
  let v2175 : BitVec 32 := Scalar.muli arg10 c4_i32_1373
  let v2176 : BitVec 32 := Scalar.addi v2175 c0_i32_1374
  let v2178 : Index := Scalar.indexCast v2176
  let c480_1376 : Index := 480#32
  ![0, v2178.toNat, 480]
def k0_off67 (k0_t1 : Fin k0_t1_loop.trips) : Fin 3 → Nat :=
  let c0_i32_1411 : BitVec 32 := 0#32
  let v2234 : Index := Scalar.indexCast c0_i32_1411
  let c0_i32_73 : BitVec 32 := 0#32
  let c1_i32_74 : BitVec 32 := 1#32
  let arg10 : BitVec 32 := Scf.iv c0_i32_73 c1_i32_74 k0_t1
  let v2235 : Index := Scalar.indexCast arg10
  let c496 : Index := 496#32
  ![0, v2235.toNat, 496]
def k0_off68 (k0_t1 : Fin k0_t1_loop.trips) (c0_i32_1415 : BitVec 32) : Fin 3 → Nat :=
  let c0_i32_1416 : BitVec 32 := 0#32
  let v2244 : Index := Scalar.indexCast c0_i32_1416
  let c0_i32_73 : BitVec 32 := 0#32
  let c1_i32_74 : BitVec 32 := 1#32
  let arg10 : BitVec 32 := Scf.iv c0_i32_73 c1_i32_74 k0_t1
  let c4_i32_1414 : BitVec 32 := 4#32
  let v2242 : BitVec 32 := Scalar.muli arg10 c4_i32_1414
  let v2243 : BitVec 32 := Scalar.addi v2242 c0_i32_1415
  let v2245 : Index := Scalar.indexCast v2243
  let c496_1417 : Index := 496#32
  ![0, v2245.toNat, 496]
def k0_off69 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v4 : BitVec 32 := Scalar.muli v1 c128_i32_0
  let c2_i32_24 : BitVec 32 := 2#32
  let c0_i32_23 : BitVec 32 := 0#32
  let v40 : BitVec 32 := Scalar.muli c2_i32_24 c0_i32_23
  let c64_i32_76 : BitVec 32 := 64#32
  let v100 : BitVec 32 := Scalar.muli v40 c64_i32_76
  let v101 : BitVec 32 := Scalar.addi v4 v100
  let c0_i32_81 : BitVec 32 := 0#32
  ![v101.toNat, 0]
@[reducible] def k0_t2_loop : Scf.Loop 32 :=
  let c0_i32_106 : BitVec 32 := 0#32
  let c16_i32_107 : BitVec 32 := 16#32
  let v126 : BitVec 32 := Scalar.addi c0_i32_106 c16_i32_107
  let c1_i32_108 : BitVec 32 := 1#32
  ⟨c0_i32_106, v126, c1_i32_108⟩
def k0_off70 (k0_t2 : Fin k0_t2_loop.trips) : Fin 3 → Nat :=
  let c1_i32_143 : BitVec 32 := 1#32
  let v157 : Index := Scalar.indexCast c1_i32_143
  let c0_i32_106 : BitVec 32 := 0#32
  let c1_i32_108 : BitVec 32 := 1#32
  let arg10 : BitVec 32 := Scf.iv c0_i32_106 c1_i32_108 k0_t2
  let v158 : Index := Scalar.indexCast arg10
  let c0 : Index := 0#32
  ![1, v158.toNat, 0]
def k0_off71 (k0_t2 : Fin k0_t2_loop.trips) (c0_i32_147 : BitVec 32) : Fin 3 → Nat :=
  let c1_i32_148 : BitVec 32 := 1#32
  let v167 : Index := Scalar.indexCast c1_i32_148
  let c0_i32_106 : BitVec 32 := 0#32
  let c1_i32_108 : BitVec 32 := 1#32
  let arg10 : BitVec 32 := Scf.iv c0_i32_106 c1_i32_108 k0_t2
  let c4_i32_146 : BitVec 32 := 4#32
  let v165 : BitVec 32 := Scalar.muli arg10 c4_i32_146
  let v166 : BitVec 32 := Scalar.addi v165 c0_i32_147
  let v168 : Index := Scalar.indexCast v166
  let c0_149 : Index := 0#32
  ![1, v168.toNat, 0]
def k0_off72 (k0_t2 : Fin k0_t2_loop.trips) : Fin 3 → Nat :=
  let c1_i32_181 : BitVec 32 := 1#32
  let v224 : Index := Scalar.indexCast c1_i32_181
  let c0_i32_106 : BitVec 32 := 0#32
  let c1_i32_108 : BitVec 32 := 1#32
  let arg10 : BitVec 32 := Scf.iv c0_i32_106 c1_i32_108 k0_t2
  let v225 : Index := Scalar.indexCast arg10
  let c16 : Index := 16#32
  ![1, v225.toNat, 16]
def k0_off73 (k0_t2 : Fin k0_t2_loop.trips) (c0_i32_185 : BitVec 32) : Fin 3 → Nat :=
  let c1_i32_186 : BitVec 32 := 1#32
  let v234 : Index := Scalar.indexCast c1_i32_186
  let c0_i32_106 : BitVec 32 := 0#32
  let c1_i32_108 : BitVec 32 := 1#32
  let arg10 : BitVec 32 := Scf.iv c0_i32_106 c1_i32_108 k0_t2
  let c4_i32_184 : BitVec 32 := 4#32
  let v232 : BitVec 32 := Scalar.muli arg10 c4_i32_184
  let v233 : BitVec 32 := Scalar.addi v232 c0_i32_185
  let v235 : Index := Scalar.indexCast v233
  let c16_187 : Index := 16#32
  ![1, v235.toNat, 16]
def k0_off74 (k0_t2 : Fin k0_t2_loop.trips) : Fin 3 → Nat :=
  let c1_i32_222 : BitVec 32 := 1#32
  let v291 : Index := Scalar.indexCast c1_i32_222
  let c0_i32_106 : BitVec 32 := 0#32
  let c1_i32_108 : BitVec 32 := 1#32
  let arg10 : BitVec 32 := Scf.iv c0_i32_106 c1_i32_108 k0_t2
  let v292 : Index := Scalar.indexCast arg10
  let c32 : Index := 32#32
  ![1, v292.toNat, 32]
def k0_off75 (k0_t2 : Fin k0_t2_loop.trips) (c0_i32_226 : BitVec 32) : Fin 3 → Nat :=
  let c1_i32_227 : BitVec 32 := 1#32
  let v301 : Index := Scalar.indexCast c1_i32_227
  let c0_i32_106 : BitVec 32 := 0#32
  let c1_i32_108 : BitVec 32 := 1#32
  let arg10 : BitVec 32 := Scf.iv c0_i32_106 c1_i32_108 k0_t2
  let c4_i32_225 : BitVec 32 := 4#32
  let v299 : BitVec 32 := Scalar.muli arg10 c4_i32_225
  let v300 : BitVec 32 := Scalar.addi v299 c0_i32_226
  let v302 : Index := Scalar.indexCast v300
  let c32_228 : Index := 32#32
  ![1, v302.toNat, 32]
def k0_off76 (k0_t2 : Fin k0_t2_loop.trips) : Fin 3 → Nat :=
  let c1_i32_263 : BitVec 32 := 1#32
  let v358 : Index := Scalar.indexCast c1_i32_263
  let c0_i32_106 : BitVec 32 := 0#32
  let c1_i32_108 : BitVec 32 := 1#32
  let arg10 : BitVec 32 := Scf.iv c0_i32_106 c1_i32_108 k0_t2
  let v359 : Index := Scalar.indexCast arg10
  let c48 : Index := 48#32
  ![1, v359.toNat, 48]
def k0_off77 (k0_t2 : Fin k0_t2_loop.trips) (c0_i32_267 : BitVec 32) : Fin 3 → Nat :=
  let c1_i32_268 : BitVec 32 := 1#32
  let v368 : Index := Scalar.indexCast c1_i32_268
  let c0_i32_106 : BitVec 32 := 0#32
  let c1_i32_108 : BitVec 32 := 1#32
  let arg10 : BitVec 32 := Scf.iv c0_i32_106 c1_i32_108 k0_t2
  let c4_i32_266 : BitVec 32 := 4#32
  let v366 : BitVec 32 := Scalar.muli arg10 c4_i32_266
  let v367 : BitVec 32 := Scalar.addi v366 c0_i32_267
  let v369 : Index := Scalar.indexCast v367
  let c48_269 : Index := 48#32
  ![1, v369.toNat, 48]
def k0_off78 (k0_t2 : Fin k0_t2_loop.trips) : Fin 3 → Nat :=
  let c1_i32_304 : BitVec 32 := 1#32
  let v425 : Index := Scalar.indexCast c1_i32_304
  let c0_i32_106 : BitVec 32 := 0#32
  let c1_i32_108 : BitVec 32 := 1#32
  let arg10 : BitVec 32 := Scf.iv c0_i32_106 c1_i32_108 k0_t2
  let v426 : Index := Scalar.indexCast arg10
  let c64 : Index := 64#32
  ![1, v426.toNat, 64]
def k0_off79 (k0_t2 : Fin k0_t2_loop.trips) (c0_i32_308 : BitVec 32) : Fin 3 → Nat :=
  let c1_i32_309 : BitVec 32 := 1#32
  let v435 : Index := Scalar.indexCast c1_i32_309
  let c0_i32_106 : BitVec 32 := 0#32
  let c1_i32_108 : BitVec 32 := 1#32
  let arg10 : BitVec 32 := Scf.iv c0_i32_106 c1_i32_108 k0_t2
  let c4_i32_307 : BitVec 32 := 4#32
  let v433 : BitVec 32 := Scalar.muli arg10 c4_i32_307
  let v434 : BitVec 32 := Scalar.addi v433 c0_i32_308
  let v436 : Index := Scalar.indexCast v434
  let c64_310 : Index := 64#32
  ![1, v436.toNat, 64]
def k0_off80 (k0_t2 : Fin k0_t2_loop.trips) : Fin 3 → Nat :=
  let c1_i32_345 : BitVec 32 := 1#32
  let v492 : Index := Scalar.indexCast c1_i32_345
  let c0_i32_106 : BitVec 32 := 0#32
  let c1_i32_108 : BitVec 32 := 1#32
  let arg10 : BitVec 32 := Scf.iv c0_i32_106 c1_i32_108 k0_t2
  let v493 : Index := Scalar.indexCast arg10
  let c80 : Index := 80#32
  ![1, v493.toNat, 80]
def k0_off81 (k0_t2 : Fin k0_t2_loop.trips) (c0_i32_349 : BitVec 32) : Fin 3 → Nat :=
  let c1_i32_350 : BitVec 32 := 1#32
  let v502 : Index := Scalar.indexCast c1_i32_350
  let c0_i32_106 : BitVec 32 := 0#32
  let c1_i32_108 : BitVec 32 := 1#32
  let arg10 : BitVec 32 := Scf.iv c0_i32_106 c1_i32_108 k0_t2
  let c4_i32_348 : BitVec 32 := 4#32
  let v500 : BitVec 32 := Scalar.muli arg10 c4_i32_348
  let v501 : BitVec 32 := Scalar.addi v500 c0_i32_349
  let v503 : Index := Scalar.indexCast v501
  let c80_351 : Index := 80#32
  ![1, v503.toNat, 80]
def k0_off82 (k0_t2 : Fin k0_t2_loop.trips) : Fin 3 → Nat :=
  let c1_i32_386 : BitVec 32 := 1#32
  let v559 : Index := Scalar.indexCast c1_i32_386
  let c0_i32_106 : BitVec 32 := 0#32
  let c1_i32_108 : BitVec 32 := 1#32
  let arg10 : BitVec 32 := Scf.iv c0_i32_106 c1_i32_108 k0_t2
  let v560 : Index := Scalar.indexCast arg10
  let c96 : Index := 96#32
  ![1, v560.toNat, 96]
def k0_off83 (k0_t2 : Fin k0_t2_loop.trips) (c0_i32_390 : BitVec 32) : Fin 3 → Nat :=
  let c1_i32_391 : BitVec 32 := 1#32
  let v569 : Index := Scalar.indexCast c1_i32_391
  let c0_i32_106 : BitVec 32 := 0#32
  let c1_i32_108 : BitVec 32 := 1#32
  let arg10 : BitVec 32 := Scf.iv c0_i32_106 c1_i32_108 k0_t2
  let c4_i32_389 : BitVec 32 := 4#32
  let v567 : BitVec 32 := Scalar.muli arg10 c4_i32_389
  let v568 : BitVec 32 := Scalar.addi v567 c0_i32_390
  let v570 : Index := Scalar.indexCast v568
  let c96_392 : Index := 96#32
  ![1, v570.toNat, 96]
def k0_off84 (k0_t2 : Fin k0_t2_loop.trips) : Fin 3 → Nat :=
  let c1_i32_427 : BitVec 32 := 1#32
  let v626 : Index := Scalar.indexCast c1_i32_427
  let c0_i32_106 : BitVec 32 := 0#32
  let c1_i32_108 : BitVec 32 := 1#32
  let arg10 : BitVec 32 := Scf.iv c0_i32_106 c1_i32_108 k0_t2
  let v627 : Index := Scalar.indexCast arg10
  let c112 : Index := 112#32
  ![1, v627.toNat, 112]
def k0_off85 (k0_t2 : Fin k0_t2_loop.trips) (c0_i32_431 : BitVec 32) : Fin 3 → Nat :=
  let c1_i32_432 : BitVec 32 := 1#32
  let v636 : Index := Scalar.indexCast c1_i32_432
  let c0_i32_106 : BitVec 32 := 0#32
  let c1_i32_108 : BitVec 32 := 1#32
  let arg10 : BitVec 32 := Scf.iv c0_i32_106 c1_i32_108 k0_t2
  let c4_i32_430 : BitVec 32 := 4#32
  let v634 : BitVec 32 := Scalar.muli arg10 c4_i32_430
  let v635 : BitVec 32 := Scalar.addi v634 c0_i32_431
  let v637 : Index := Scalar.indexCast v635
  let c112_433 : Index := 112#32
  ![1, v637.toNat, 112]
def k0_off86 (k0_t2 : Fin k0_t2_loop.trips) : Fin 3 → Nat :=
  let c1_i32_468 : BitVec 32 := 1#32
  let v693 : Index := Scalar.indexCast c1_i32_468
  let c0_i32_106 : BitVec 32 := 0#32
  let c1_i32_108 : BitVec 32 := 1#32
  let arg10 : BitVec 32 := Scf.iv c0_i32_106 c1_i32_108 k0_t2
  let v694 : Index := Scalar.indexCast arg10
  let c128 : Index := 128#32
  ![1, v694.toNat, 128]
def k0_off87 (k0_t2 : Fin k0_t2_loop.trips) (c0_i32_472 : BitVec 32) : Fin 3 → Nat :=
  let c1_i32_473 : BitVec 32 := 1#32
  let v703 : Index := Scalar.indexCast c1_i32_473
  let c0_i32_106 : BitVec 32 := 0#32
  let c1_i32_108 : BitVec 32 := 1#32
  let arg10 : BitVec 32 := Scf.iv c0_i32_106 c1_i32_108 k0_t2
  let c4_i32_471 : BitVec 32 := 4#32
  let v701 : BitVec 32 := Scalar.muli arg10 c4_i32_471
  let v702 : BitVec 32 := Scalar.addi v701 c0_i32_472
  let v704 : Index := Scalar.indexCast v702
  let c128_474 : Index := 128#32
  ![1, v704.toNat, 128]
def k0_off88 (k0_t2 : Fin k0_t2_loop.trips) : Fin 3 → Nat :=
  let c1_i32_509 : BitVec 32 := 1#32
  let v760 : Index := Scalar.indexCast c1_i32_509
  let c0_i32_106 : BitVec 32 := 0#32
  let c1_i32_108 : BitVec 32 := 1#32
  let arg10 : BitVec 32 := Scf.iv c0_i32_106 c1_i32_108 k0_t2
  let v761 : Index := Scalar.indexCast arg10
  let c144 : Index := 144#32
  ![1, v761.toNat, 144]
def k0_off89 (k0_t2 : Fin k0_t2_loop.trips) (c0_i32_513 : BitVec 32) : Fin 3 → Nat :=
  let c1_i32_514 : BitVec 32 := 1#32
  let v770 : Index := Scalar.indexCast c1_i32_514
  let c0_i32_106 : BitVec 32 := 0#32
  let c1_i32_108 : BitVec 32 := 1#32
  let arg10 : BitVec 32 := Scf.iv c0_i32_106 c1_i32_108 k0_t2
  let c4_i32_512 : BitVec 32 := 4#32
  let v768 : BitVec 32 := Scalar.muli arg10 c4_i32_512
  let v769 : BitVec 32 := Scalar.addi v768 c0_i32_513
  let v771 : Index := Scalar.indexCast v769
  let c144_515 : Index := 144#32
  ![1, v771.toNat, 144]
def k0_off90 (k0_t2 : Fin k0_t2_loop.trips) : Fin 3 → Nat :=
  let c1_i32_550 : BitVec 32 := 1#32
  let v827 : Index := Scalar.indexCast c1_i32_550
  let c0_i32_106 : BitVec 32 := 0#32
  let c1_i32_108 : BitVec 32 := 1#32
  let arg10 : BitVec 32 := Scf.iv c0_i32_106 c1_i32_108 k0_t2
  let v828 : Index := Scalar.indexCast arg10
  let c160 : Index := 160#32
  ![1, v828.toNat, 160]
def k0_off91 (k0_t2 : Fin k0_t2_loop.trips) (c0_i32_554 : BitVec 32) : Fin 3 → Nat :=
  let c1_i32_555 : BitVec 32 := 1#32
  let v837 : Index := Scalar.indexCast c1_i32_555
  let c0_i32_106 : BitVec 32 := 0#32
  let c1_i32_108 : BitVec 32 := 1#32
  let arg10 : BitVec 32 := Scf.iv c0_i32_106 c1_i32_108 k0_t2
  let c4_i32_553 : BitVec 32 := 4#32
  let v835 : BitVec 32 := Scalar.muli arg10 c4_i32_553
  let v836 : BitVec 32 := Scalar.addi v835 c0_i32_554
  let v838 : Index := Scalar.indexCast v836
  let c160_556 : Index := 160#32
  ![1, v838.toNat, 160]
def k0_off92 (k0_t2 : Fin k0_t2_loop.trips) : Fin 3 → Nat :=
  let c1_i32_591 : BitVec 32 := 1#32
  let v894 : Index := Scalar.indexCast c1_i32_591
  let c0_i32_106 : BitVec 32 := 0#32
  let c1_i32_108 : BitVec 32 := 1#32
  let arg10 : BitVec 32 := Scf.iv c0_i32_106 c1_i32_108 k0_t2
  let v895 : Index := Scalar.indexCast arg10
  let c176 : Index := 176#32
  ![1, v895.toNat, 176]
def k0_off93 (k0_t2 : Fin k0_t2_loop.trips) (c0_i32_595 : BitVec 32) : Fin 3 → Nat :=
  let c1_i32_596 : BitVec 32 := 1#32
  let v904 : Index := Scalar.indexCast c1_i32_596
  let c0_i32_106 : BitVec 32 := 0#32
  let c1_i32_108 : BitVec 32 := 1#32
  let arg10 : BitVec 32 := Scf.iv c0_i32_106 c1_i32_108 k0_t2
  let c4_i32_594 : BitVec 32 := 4#32
  let v902 : BitVec 32 := Scalar.muli arg10 c4_i32_594
  let v903 : BitVec 32 := Scalar.addi v902 c0_i32_595
  let v905 : Index := Scalar.indexCast v903
  let c176_597 : Index := 176#32
  ![1, v905.toNat, 176]
def k0_off94 (k0_t2 : Fin k0_t2_loop.trips) : Fin 3 → Nat :=
  let c1_i32_632 : BitVec 32 := 1#32
  let v961 : Index := Scalar.indexCast c1_i32_632
  let c0_i32_106 : BitVec 32 := 0#32
  let c1_i32_108 : BitVec 32 := 1#32
  let arg10 : BitVec 32 := Scf.iv c0_i32_106 c1_i32_108 k0_t2
  let v962 : Index := Scalar.indexCast arg10
  let c192 : Index := 192#32
  ![1, v962.toNat, 192]
def k0_off95 (k0_t2 : Fin k0_t2_loop.trips) (c0_i32_636 : BitVec 32) : Fin 3 → Nat :=
  let c1_i32_637 : BitVec 32 := 1#32
  let v971 : Index := Scalar.indexCast c1_i32_637
  let c0_i32_106 : BitVec 32 := 0#32
  let c1_i32_108 : BitVec 32 := 1#32
  let arg10 : BitVec 32 := Scf.iv c0_i32_106 c1_i32_108 k0_t2
  let c4_i32_635 : BitVec 32 := 4#32
  let v969 : BitVec 32 := Scalar.muli arg10 c4_i32_635
  let v970 : BitVec 32 := Scalar.addi v969 c0_i32_636
  let v972 : Index := Scalar.indexCast v970
  let c192_638 : Index := 192#32
  ![1, v972.toNat, 192]
def k0_off96 (k0_t2 : Fin k0_t2_loop.trips) : Fin 3 → Nat :=
  let c1_i32_673 : BitVec 32 := 1#32
  let v1028 : Index := Scalar.indexCast c1_i32_673
  let c0_i32_106 : BitVec 32 := 0#32
  let c1_i32_108 : BitVec 32 := 1#32
  let arg10 : BitVec 32 := Scf.iv c0_i32_106 c1_i32_108 k0_t2
  let v1029 : Index := Scalar.indexCast arg10
  let c208 : Index := 208#32
  ![1, v1029.toNat, 208]
def k0_off97 (k0_t2 : Fin k0_t2_loop.trips) (c0_i32_677 : BitVec 32) : Fin 3 → Nat :=
  let c1_i32_678 : BitVec 32 := 1#32
  let v1038 : Index := Scalar.indexCast c1_i32_678
  let c0_i32_106 : BitVec 32 := 0#32
  let c1_i32_108 : BitVec 32 := 1#32
  let arg10 : BitVec 32 := Scf.iv c0_i32_106 c1_i32_108 k0_t2
  let c4_i32_676 : BitVec 32 := 4#32
  let v1036 : BitVec 32 := Scalar.muli arg10 c4_i32_676
  let v1037 : BitVec 32 := Scalar.addi v1036 c0_i32_677
  let v1039 : Index := Scalar.indexCast v1037
  let c208_679 : Index := 208#32
  ![1, v1039.toNat, 208]
def k0_off98 (k0_t2 : Fin k0_t2_loop.trips) : Fin 3 → Nat :=
  let c1_i32_714 : BitVec 32 := 1#32
  let v1095 : Index := Scalar.indexCast c1_i32_714
  let c0_i32_106 : BitVec 32 := 0#32
  let c1_i32_108 : BitVec 32 := 1#32
  let arg10 : BitVec 32 := Scf.iv c0_i32_106 c1_i32_108 k0_t2
  let v1096 : Index := Scalar.indexCast arg10
  let c224 : Index := 224#32
  ![1, v1096.toNat, 224]
def k0_off99 (k0_t2 : Fin k0_t2_loop.trips) (c0_i32_718 : BitVec 32) : Fin 3 → Nat :=
  let c1_i32_719 : BitVec 32 := 1#32
  let v1105 : Index := Scalar.indexCast c1_i32_719
  let c0_i32_106 : BitVec 32 := 0#32
  let c1_i32_108 : BitVec 32 := 1#32
  let arg10 : BitVec 32 := Scf.iv c0_i32_106 c1_i32_108 k0_t2
  let c4_i32_717 : BitVec 32 := 4#32
  let v1103 : BitVec 32 := Scalar.muli arg10 c4_i32_717
  let v1104 : BitVec 32 := Scalar.addi v1103 c0_i32_718
  let v1106 : Index := Scalar.indexCast v1104
  let c224_720 : Index := 224#32
  ![1, v1106.toNat, 224]
def k0_off100 (k0_t2 : Fin k0_t2_loop.trips) : Fin 3 → Nat :=
  let c1_i32_755 : BitVec 32 := 1#32
  let v1162 : Index := Scalar.indexCast c1_i32_755
  let c0_i32_106 : BitVec 32 := 0#32
  let c1_i32_108 : BitVec 32 := 1#32
  let arg10 : BitVec 32 := Scf.iv c0_i32_106 c1_i32_108 k0_t2
  let v1163 : Index := Scalar.indexCast arg10
  let c240 : Index := 240#32
  ![1, v1163.toNat, 240]
def k0_off101 (k0_t2 : Fin k0_t2_loop.trips) (c0_i32_759 : BitVec 32) : Fin 3 → Nat :=
  let c1_i32_760 : BitVec 32 := 1#32
  let v1172 : Index := Scalar.indexCast c1_i32_760
  let c0_i32_106 : BitVec 32 := 0#32
  let c1_i32_108 : BitVec 32 := 1#32
  let arg10 : BitVec 32 := Scf.iv c0_i32_106 c1_i32_108 k0_t2
  let c4_i32_758 : BitVec 32 := 4#32
  let v1170 : BitVec 32 := Scalar.muli arg10 c4_i32_758
  let v1171 : BitVec 32 := Scalar.addi v1170 c0_i32_759
  let v1173 : Index := Scalar.indexCast v1171
  let c240_761 : Index := 240#32
  ![1, v1173.toNat, 240]
def k0_off102 (k0_t2 : Fin k0_t2_loop.trips) : Fin 3 → Nat :=
  let c1_i32_796 : BitVec 32 := 1#32
  let v1229 : Index := Scalar.indexCast c1_i32_796
  let c0_i32_106 : BitVec 32 := 0#32
  let c1_i32_108 : BitVec 32 := 1#32
  let arg10 : BitVec 32 := Scf.iv c0_i32_106 c1_i32_108 k0_t2
  let v1230 : Index := Scalar.indexCast arg10
  let c256 : Index := 256#32
  ![1, v1230.toNat, 256]
def k0_off103 (k0_t2 : Fin k0_t2_loop.trips) (c0_i32_800 : BitVec 32) : Fin 3 → Nat :=
  let c1_i32_801 : BitVec 32 := 1#32
  let v1239 : Index := Scalar.indexCast c1_i32_801
  let c0_i32_106 : BitVec 32 := 0#32
  let c1_i32_108 : BitVec 32 := 1#32
  let arg10 : BitVec 32 := Scf.iv c0_i32_106 c1_i32_108 k0_t2
  let c4_i32_799 : BitVec 32 := 4#32
  let v1237 : BitVec 32 := Scalar.muli arg10 c4_i32_799
  let v1238 : BitVec 32 := Scalar.addi v1237 c0_i32_800
  let v1240 : Index := Scalar.indexCast v1238
  let c256_802 : Index := 256#32
  ![1, v1240.toNat, 256]
def k0_off104 (k0_t2 : Fin k0_t2_loop.trips) : Fin 3 → Nat :=
  let c1_i32_837 : BitVec 32 := 1#32
  let v1296 : Index := Scalar.indexCast c1_i32_837
  let c0_i32_106 : BitVec 32 := 0#32
  let c1_i32_108 : BitVec 32 := 1#32
  let arg10 : BitVec 32 := Scf.iv c0_i32_106 c1_i32_108 k0_t2
  let v1297 : Index := Scalar.indexCast arg10
  let c272 : Index := 272#32
  ![1, v1297.toNat, 272]
def k0_off105 (k0_t2 : Fin k0_t2_loop.trips) (c0_i32_841 : BitVec 32) : Fin 3 → Nat :=
  let c1_i32_842 : BitVec 32 := 1#32
  let v1306 : Index := Scalar.indexCast c1_i32_842
  let c0_i32_106 : BitVec 32 := 0#32
  let c1_i32_108 : BitVec 32 := 1#32
  let arg10 : BitVec 32 := Scf.iv c0_i32_106 c1_i32_108 k0_t2
  let c4_i32_840 : BitVec 32 := 4#32
  let v1304 : BitVec 32 := Scalar.muli arg10 c4_i32_840
  let v1305 : BitVec 32 := Scalar.addi v1304 c0_i32_841
  let v1307 : Index := Scalar.indexCast v1305
  let c272_843 : Index := 272#32
  ![1, v1307.toNat, 272]
def k0_off106 (k0_t2 : Fin k0_t2_loop.trips) : Fin 3 → Nat :=
  let c1_i32_878 : BitVec 32 := 1#32
  let v1363 : Index := Scalar.indexCast c1_i32_878
  let c0_i32_106 : BitVec 32 := 0#32
  let c1_i32_108 : BitVec 32 := 1#32
  let arg10 : BitVec 32 := Scf.iv c0_i32_106 c1_i32_108 k0_t2
  let v1364 : Index := Scalar.indexCast arg10
  let c288 : Index := 288#32
  ![1, v1364.toNat, 288]
def k0_off107 (k0_t2 : Fin k0_t2_loop.trips) (c0_i32_882 : BitVec 32) : Fin 3 → Nat :=
  let c1_i32_883 : BitVec 32 := 1#32
  let v1373 : Index := Scalar.indexCast c1_i32_883
  let c0_i32_106 : BitVec 32 := 0#32
  let c1_i32_108 : BitVec 32 := 1#32
  let arg10 : BitVec 32 := Scf.iv c0_i32_106 c1_i32_108 k0_t2
  let c4_i32_881 : BitVec 32 := 4#32
  let v1371 : BitVec 32 := Scalar.muli arg10 c4_i32_881
  let v1372 : BitVec 32 := Scalar.addi v1371 c0_i32_882
  let v1374 : Index := Scalar.indexCast v1372
  let c288_884 : Index := 288#32
  ![1, v1374.toNat, 288]
def k0_off108 (k0_t2 : Fin k0_t2_loop.trips) : Fin 3 → Nat :=
  let c1_i32_919 : BitVec 32 := 1#32
  let v1430 : Index := Scalar.indexCast c1_i32_919
  let c0_i32_106 : BitVec 32 := 0#32
  let c1_i32_108 : BitVec 32 := 1#32
  let arg10 : BitVec 32 := Scf.iv c0_i32_106 c1_i32_108 k0_t2
  let v1431 : Index := Scalar.indexCast arg10
  let c304 : Index := 304#32
  ![1, v1431.toNat, 304]
def k0_off109 (k0_t2 : Fin k0_t2_loop.trips) (c0_i32_923 : BitVec 32) : Fin 3 → Nat :=
  let c1_i32_924 : BitVec 32 := 1#32
  let v1440 : Index := Scalar.indexCast c1_i32_924
  let c0_i32_106 : BitVec 32 := 0#32
  let c1_i32_108 : BitVec 32 := 1#32
  let arg10 : BitVec 32 := Scf.iv c0_i32_106 c1_i32_108 k0_t2
  let c4_i32_922 : BitVec 32 := 4#32
  let v1438 : BitVec 32 := Scalar.muli arg10 c4_i32_922
  let v1439 : BitVec 32 := Scalar.addi v1438 c0_i32_923
  let v1441 : Index := Scalar.indexCast v1439
  let c304_925 : Index := 304#32
  ![1, v1441.toNat, 304]
def k0_off110 (k0_t2 : Fin k0_t2_loop.trips) : Fin 3 → Nat :=
  let c1_i32_960 : BitVec 32 := 1#32
  let v1497 : Index := Scalar.indexCast c1_i32_960
  let c0_i32_106 : BitVec 32 := 0#32
  let c1_i32_108 : BitVec 32 := 1#32
  let arg10 : BitVec 32 := Scf.iv c0_i32_106 c1_i32_108 k0_t2
  let v1498 : Index := Scalar.indexCast arg10
  let c320 : Index := 320#32
  ![1, v1498.toNat, 320]
def k0_off111 (k0_t2 : Fin k0_t2_loop.trips) (c0_i32_964 : BitVec 32) : Fin 3 → Nat :=
  let c1_i32_965 : BitVec 32 := 1#32
  let v1507 : Index := Scalar.indexCast c1_i32_965
  let c0_i32_106 : BitVec 32 := 0#32
  let c1_i32_108 : BitVec 32 := 1#32
  let arg10 : BitVec 32 := Scf.iv c0_i32_106 c1_i32_108 k0_t2
  let c4_i32_963 : BitVec 32 := 4#32
  let v1505 : BitVec 32 := Scalar.muli arg10 c4_i32_963
  let v1506 : BitVec 32 := Scalar.addi v1505 c0_i32_964
  let v1508 : Index := Scalar.indexCast v1506
  let c320_966 : Index := 320#32
  ![1, v1508.toNat, 320]
def k0_off112 (k0_t2 : Fin k0_t2_loop.trips) : Fin 3 → Nat :=
  let c1_i32_1001 : BitVec 32 := 1#32
  let v1564 : Index := Scalar.indexCast c1_i32_1001
  let c0_i32_106 : BitVec 32 := 0#32
  let c1_i32_108 : BitVec 32 := 1#32
  let arg10 : BitVec 32 := Scf.iv c0_i32_106 c1_i32_108 k0_t2
  let v1565 : Index := Scalar.indexCast arg10
  let c336 : Index := 336#32
  ![1, v1565.toNat, 336]
def k0_off113 (k0_t2 : Fin k0_t2_loop.trips) (c0_i32_1005 : BitVec 32) : Fin 3 → Nat :=
  let c1_i32_1006 : BitVec 32 := 1#32
  let v1574 : Index := Scalar.indexCast c1_i32_1006
  let c0_i32_106 : BitVec 32 := 0#32
  let c1_i32_108 : BitVec 32 := 1#32
  let arg10 : BitVec 32 := Scf.iv c0_i32_106 c1_i32_108 k0_t2
  let c4_i32_1004 : BitVec 32 := 4#32
  let v1572 : BitVec 32 := Scalar.muli arg10 c4_i32_1004
  let v1573 : BitVec 32 := Scalar.addi v1572 c0_i32_1005
  let v1575 : Index := Scalar.indexCast v1573
  let c336_1007 : Index := 336#32
  ![1, v1575.toNat, 336]
def k0_off114 (k0_t2 : Fin k0_t2_loop.trips) : Fin 3 → Nat :=
  let c1_i32_1042 : BitVec 32 := 1#32
  let v1631 : Index := Scalar.indexCast c1_i32_1042
  let c0_i32_106 : BitVec 32 := 0#32
  let c1_i32_108 : BitVec 32 := 1#32
  let arg10 : BitVec 32 := Scf.iv c0_i32_106 c1_i32_108 k0_t2
  let v1632 : Index := Scalar.indexCast arg10
  let c352 : Index := 352#32
  ![1, v1632.toNat, 352]
def k0_off115 (k0_t2 : Fin k0_t2_loop.trips) (c0_i32_1046 : BitVec 32) : Fin 3 → Nat :=
  let c1_i32_1047 : BitVec 32 := 1#32
  let v1641 : Index := Scalar.indexCast c1_i32_1047
  let c0_i32_106 : BitVec 32 := 0#32
  let c1_i32_108 : BitVec 32 := 1#32
  let arg10 : BitVec 32 := Scf.iv c0_i32_106 c1_i32_108 k0_t2
  let c4_i32_1045 : BitVec 32 := 4#32
  let v1639 : BitVec 32 := Scalar.muli arg10 c4_i32_1045
  let v1640 : BitVec 32 := Scalar.addi v1639 c0_i32_1046
  let v1642 : Index := Scalar.indexCast v1640
  let c352_1048 : Index := 352#32
  ![1, v1642.toNat, 352]
def k0_off116 (k0_t2 : Fin k0_t2_loop.trips) : Fin 3 → Nat :=
  let c1_i32_1083 : BitVec 32 := 1#32
  let v1698 : Index := Scalar.indexCast c1_i32_1083
  let c0_i32_106 : BitVec 32 := 0#32
  let c1_i32_108 : BitVec 32 := 1#32
  let arg10 : BitVec 32 := Scf.iv c0_i32_106 c1_i32_108 k0_t2
  let v1699 : Index := Scalar.indexCast arg10
  let c368 : Index := 368#32
  ![1, v1699.toNat, 368]
def k0_off117 (k0_t2 : Fin k0_t2_loop.trips) (c0_i32_1087 : BitVec 32) : Fin 3 → Nat :=
  let c1_i32_1088 : BitVec 32 := 1#32
  let v1708 : Index := Scalar.indexCast c1_i32_1088
  let c0_i32_106 : BitVec 32 := 0#32
  let c1_i32_108 : BitVec 32 := 1#32
  let arg10 : BitVec 32 := Scf.iv c0_i32_106 c1_i32_108 k0_t2
  let c4_i32_1086 : BitVec 32 := 4#32
  let v1706 : BitVec 32 := Scalar.muli arg10 c4_i32_1086
  let v1707 : BitVec 32 := Scalar.addi v1706 c0_i32_1087
  let v1709 : Index := Scalar.indexCast v1707
  let c368_1089 : Index := 368#32
  ![1, v1709.toNat, 368]
def k0_off118 (k0_t2 : Fin k0_t2_loop.trips) : Fin 3 → Nat :=
  let c1_i32_1124 : BitVec 32 := 1#32
  let v1765 : Index := Scalar.indexCast c1_i32_1124
  let c0_i32_106 : BitVec 32 := 0#32
  let c1_i32_108 : BitVec 32 := 1#32
  let arg10 : BitVec 32 := Scf.iv c0_i32_106 c1_i32_108 k0_t2
  let v1766 : Index := Scalar.indexCast arg10
  let c384 : Index := 384#32
  ![1, v1766.toNat, 384]
def k0_off119 (k0_t2 : Fin k0_t2_loop.trips) (c0_i32_1128 : BitVec 32) : Fin 3 → Nat :=
  let c1_i32_1129 : BitVec 32 := 1#32
  let v1775 : Index := Scalar.indexCast c1_i32_1129
  let c0_i32_106 : BitVec 32 := 0#32
  let c1_i32_108 : BitVec 32 := 1#32
  let arg10 : BitVec 32 := Scf.iv c0_i32_106 c1_i32_108 k0_t2
  let c4_i32_1127 : BitVec 32 := 4#32
  let v1773 : BitVec 32 := Scalar.muli arg10 c4_i32_1127
  let v1774 : BitVec 32 := Scalar.addi v1773 c0_i32_1128
  let v1776 : Index := Scalar.indexCast v1774
  let c384_1130 : Index := 384#32
  ![1, v1776.toNat, 384]
def k0_off120 (k0_t2 : Fin k0_t2_loop.trips) : Fin 3 → Nat :=
  let c1_i32_1165 : BitVec 32 := 1#32
  let v1832 : Index := Scalar.indexCast c1_i32_1165
  let c0_i32_106 : BitVec 32 := 0#32
  let c1_i32_108 : BitVec 32 := 1#32
  let arg10 : BitVec 32 := Scf.iv c0_i32_106 c1_i32_108 k0_t2
  let v1833 : Index := Scalar.indexCast arg10
  let c400 : Index := 400#32
  ![1, v1833.toNat, 400]
def k0_off121 (k0_t2 : Fin k0_t2_loop.trips) (c0_i32_1169 : BitVec 32) : Fin 3 → Nat :=
  let c1_i32_1170 : BitVec 32 := 1#32
  let v1842 : Index := Scalar.indexCast c1_i32_1170
  let c0_i32_106 : BitVec 32 := 0#32
  let c1_i32_108 : BitVec 32 := 1#32
  let arg10 : BitVec 32 := Scf.iv c0_i32_106 c1_i32_108 k0_t2
  let c4_i32_1168 : BitVec 32 := 4#32
  let v1840 : BitVec 32 := Scalar.muli arg10 c4_i32_1168
  let v1841 : BitVec 32 := Scalar.addi v1840 c0_i32_1169
  let v1843 : Index := Scalar.indexCast v1841
  let c400_1171 : Index := 400#32
  ![1, v1843.toNat, 400]
def k0_off122 (k0_t2 : Fin k0_t2_loop.trips) : Fin 3 → Nat :=
  let c1_i32_1206 : BitVec 32 := 1#32
  let v1899 : Index := Scalar.indexCast c1_i32_1206
  let c0_i32_106 : BitVec 32 := 0#32
  let c1_i32_108 : BitVec 32 := 1#32
  let arg10 : BitVec 32 := Scf.iv c0_i32_106 c1_i32_108 k0_t2
  let v1900 : Index := Scalar.indexCast arg10
  let c416 : Index := 416#32
  ![1, v1900.toNat, 416]
def k0_off123 (k0_t2 : Fin k0_t2_loop.trips) (c0_i32_1210 : BitVec 32) : Fin 3 → Nat :=
  let c1_i32_1211 : BitVec 32 := 1#32
  let v1909 : Index := Scalar.indexCast c1_i32_1211
  let c0_i32_106 : BitVec 32 := 0#32
  let c1_i32_108 : BitVec 32 := 1#32
  let arg10 : BitVec 32 := Scf.iv c0_i32_106 c1_i32_108 k0_t2
  let c4_i32_1209 : BitVec 32 := 4#32
  let v1907 : BitVec 32 := Scalar.muli arg10 c4_i32_1209
  let v1908 : BitVec 32 := Scalar.addi v1907 c0_i32_1210
  let v1910 : Index := Scalar.indexCast v1908
  let c416_1212 : Index := 416#32
  ![1, v1910.toNat, 416]
def k0_off124 (k0_t2 : Fin k0_t2_loop.trips) : Fin 3 → Nat :=
  let c1_i32_1247 : BitVec 32 := 1#32
  let v1966 : Index := Scalar.indexCast c1_i32_1247
  let c0_i32_106 : BitVec 32 := 0#32
  let c1_i32_108 : BitVec 32 := 1#32
  let arg10 : BitVec 32 := Scf.iv c0_i32_106 c1_i32_108 k0_t2
  let v1967 : Index := Scalar.indexCast arg10
  let c432 : Index := 432#32
  ![1, v1967.toNat, 432]
def k0_off125 (k0_t2 : Fin k0_t2_loop.trips) (c0_i32_1251 : BitVec 32) : Fin 3 → Nat :=
  let c1_i32_1252 : BitVec 32 := 1#32
  let v1976 : Index := Scalar.indexCast c1_i32_1252
  let c0_i32_106 : BitVec 32 := 0#32
  let c1_i32_108 : BitVec 32 := 1#32
  let arg10 : BitVec 32 := Scf.iv c0_i32_106 c1_i32_108 k0_t2
  let c4_i32_1250 : BitVec 32 := 4#32
  let v1974 : BitVec 32 := Scalar.muli arg10 c4_i32_1250
  let v1975 : BitVec 32 := Scalar.addi v1974 c0_i32_1251
  let v1977 : Index := Scalar.indexCast v1975
  let c432_1253 : Index := 432#32
  ![1, v1977.toNat, 432]
def k0_off126 (k0_t2 : Fin k0_t2_loop.trips) : Fin 3 → Nat :=
  let c1_i32_1288 : BitVec 32 := 1#32
  let v2033 : Index := Scalar.indexCast c1_i32_1288
  let c0_i32_106 : BitVec 32 := 0#32
  let c1_i32_108 : BitVec 32 := 1#32
  let arg10 : BitVec 32 := Scf.iv c0_i32_106 c1_i32_108 k0_t2
  let v2034 : Index := Scalar.indexCast arg10
  let c448 : Index := 448#32
  ![1, v2034.toNat, 448]
def k0_off127 (k0_t2 : Fin k0_t2_loop.trips) (c0_i32_1292 : BitVec 32) : Fin 3 → Nat :=
  let c1_i32_1293 : BitVec 32 := 1#32
  let v2043 : Index := Scalar.indexCast c1_i32_1293
  let c0_i32_106 : BitVec 32 := 0#32
  let c1_i32_108 : BitVec 32 := 1#32
  let arg10 : BitVec 32 := Scf.iv c0_i32_106 c1_i32_108 k0_t2
  let c4_i32_1291 : BitVec 32 := 4#32
  let v2041 : BitVec 32 := Scalar.muli arg10 c4_i32_1291
  let v2042 : BitVec 32 := Scalar.addi v2041 c0_i32_1292
  let v2044 : Index := Scalar.indexCast v2042
  let c448_1294 : Index := 448#32
  ![1, v2044.toNat, 448]
def k0_off128 (k0_t2 : Fin k0_t2_loop.trips) : Fin 3 → Nat :=
  let c1_i32_1329 : BitVec 32 := 1#32
  let v2100 : Index := Scalar.indexCast c1_i32_1329
  let c0_i32_106 : BitVec 32 := 0#32
  let c1_i32_108 : BitVec 32 := 1#32
  let arg10 : BitVec 32 := Scf.iv c0_i32_106 c1_i32_108 k0_t2
  let v2101 : Index := Scalar.indexCast arg10
  let c464 : Index := 464#32
  ![1, v2101.toNat, 464]
def k0_off129 (k0_t2 : Fin k0_t2_loop.trips) (c0_i32_1333 : BitVec 32) : Fin 3 → Nat :=
  let c1_i32_1334 : BitVec 32 := 1#32
  let v2110 : Index := Scalar.indexCast c1_i32_1334
  let c0_i32_106 : BitVec 32 := 0#32
  let c1_i32_108 : BitVec 32 := 1#32
  let arg10 : BitVec 32 := Scf.iv c0_i32_106 c1_i32_108 k0_t2
  let c4_i32_1332 : BitVec 32 := 4#32
  let v2108 : BitVec 32 := Scalar.muli arg10 c4_i32_1332
  let v2109 : BitVec 32 := Scalar.addi v2108 c0_i32_1333
  let v2111 : Index := Scalar.indexCast v2109
  let c464_1335 : Index := 464#32
  ![1, v2111.toNat, 464]
def k0_off130 (k0_t2 : Fin k0_t2_loop.trips) : Fin 3 → Nat :=
  let c1_i32_1370 : BitVec 32 := 1#32
  let v2167 : Index := Scalar.indexCast c1_i32_1370
  let c0_i32_106 : BitVec 32 := 0#32
  let c1_i32_108 : BitVec 32 := 1#32
  let arg10 : BitVec 32 := Scf.iv c0_i32_106 c1_i32_108 k0_t2
  let v2168 : Index := Scalar.indexCast arg10
  let c480 : Index := 480#32
  ![1, v2168.toNat, 480]
def k0_off131 (k0_t2 : Fin k0_t2_loop.trips) (c0_i32_1374 : BitVec 32) : Fin 3 → Nat :=
  let c1_i32_1375 : BitVec 32 := 1#32
  let v2177 : Index := Scalar.indexCast c1_i32_1375
  let c0_i32_106 : BitVec 32 := 0#32
  let c1_i32_108 : BitVec 32 := 1#32
  let arg10 : BitVec 32 := Scf.iv c0_i32_106 c1_i32_108 k0_t2
  let c4_i32_1373 : BitVec 32 := 4#32
  let v2175 : BitVec 32 := Scalar.muli arg10 c4_i32_1373
  let v2176 : BitVec 32 := Scalar.addi v2175 c0_i32_1374
  let v2178 : Index := Scalar.indexCast v2176
  let c480_1376 : Index := 480#32
  ![1, v2178.toNat, 480]
def k0_off132 (k0_t2 : Fin k0_t2_loop.trips) : Fin 3 → Nat :=
  let c1_i32_1411 : BitVec 32 := 1#32
  let v2234 : Index := Scalar.indexCast c1_i32_1411
  let c0_i32_106 : BitVec 32 := 0#32
  let c1_i32_108 : BitVec 32 := 1#32
  let arg10 : BitVec 32 := Scf.iv c0_i32_106 c1_i32_108 k0_t2
  let v2235 : Index := Scalar.indexCast arg10
  let c496 : Index := 496#32
  ![1, v2235.toNat, 496]
def k0_off133 (k0_t2 : Fin k0_t2_loop.trips) (c0_i32_1415 : BitVec 32) : Fin 3 → Nat :=
  let c1_i32_1416 : BitVec 32 := 1#32
  let v2244 : Index := Scalar.indexCast c1_i32_1416
  let c0_i32_106 : BitVec 32 := 0#32
  let c1_i32_108 : BitVec 32 := 1#32
  let arg10 : BitVec 32 := Scf.iv c0_i32_106 c1_i32_108 k0_t2
  let c4_i32_1414 : BitVec 32 := 4#32
  let v2242 : BitVec 32 := Scalar.muli arg10 c4_i32_1414
  let v2243 : BitVec 32 := Scalar.addi v2242 c0_i32_1415
  let v2245 : Index := Scalar.indexCast v2243
  let c496_1417 : Index := 496#32
  ![1, v2245.toNat, 496]
def k0_off134 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v4 : BitVec 32 := Scalar.muli v1 c128_i32_0
  let c2_i32_25 : BitVec 32 := 2#32
  let c0_i32_23 : BitVec 32 := 0#32
  let v41 : BitVec 32 := Scalar.muli c2_i32_25 c0_i32_23
  let c1_i32_26 : BitVec 32 := 1#32
  let v42 : BitVec 32 := Scalar.addi v41 c1_i32_26
  let c64_i32_110 : BitVec 32 := 64#32
  let v128 : BitVec 32 := Scalar.muli v42 c64_i32_110
  let v129 : BitVec 32 := Scalar.addi v4 v128
  let c0_i32_115 : BitVec 32 := 0#32
  ![v129.toNat, 0]
def k0_cond2 : BitVec 1 :=
  let c0_i32_23 : BitVec 32 := 0#32
  let c0_i32_119 : BitVec 32 := 0#32
  let v138 : BitVec 1 := Scalar.cmpi .slt c0_i32_23 c0_i32_119
  let v139 : BitVec 32 := Scalar.extui v138
  let c0_i32_120 : BitVec 32 := 0#32
  let v140 : BitVec 1 := Scalar.cmpi .ne v139 c0_i32_120
  v140

def k0_off135 (i : grid0.Coords) : Fin 2 → Nat :=
  let c61440_i32 : BitVec 32 := 61440#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c61440_i32 v2
  let c2_i32_24 : BitVec 32 := 2#32
  let c0_i32_23 : BitVec 32 := 0#32
  let v40 : BitVec 32 := Scalar.muli c2_i32_24 c0_i32_23
  let c2_i32_153 : BitVec 32 := 2#32
  let v165 : BitVec 32 := Scalar.addi v40 c2_i32_153
  let c64_i32_154 : BitVec 32 := 64#32
  let v166 : BitVec 32 := Scalar.muli v165 c64_i32_154
  let v167 : BitVec 32 := Scalar.addi v3 v166
  let c0_i32_159 : BitVec 32 := 0#32
  ![v167.toNat, 0]
def k0_mult3 (i : grid0.Coords) : BitVec 32 :=
  let c61440_i32 : BitVec 32 := 61440#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c61440_i32 v2
  let c2_i32_24 : BitVec 32 := 2#32
  let c0_i32_23 : BitVec 32 := 0#32
  let v40 : BitVec 32 := Scalar.muli c2_i32_24 c0_i32_23
  let c2_i32_153 : BitVec 32 := 2#32
  let v165 : BitVec 32 := Scalar.addi v40 c2_i32_153
  let c64_i32_154 : BitVec 32 := 64#32
  let v166 : BitVec 32 := Scalar.muli v165 c64_i32_154
  let v167 : BitVec 32 := Scalar.addi v3 v166
  let c0_i32_164 : BitVec 32 := 0#32
  let v177 : BitVec 1 := Scalar.cmpi .sgt v167 c0_i32_164
  let v178 : BitVec 32 := Scalar.extui v177
  let c0_i32_165 : BitVec 32 := 0#32
  let v179 : BitVec 1 := Scalar.cmpi .slt v167 c0_i32_165
  let v180 : BitVec 32 := Scalar.extui v179
  let v181 : BitVec 32 := Scalar.subi v178 v180
  let c4_i32_163 : BitVec 32 := 4#32
  let c0_i32_166 : BitVec 32 := 0#32
  let v182 : BitVec 1 := Scalar.cmpi .sgt c4_i32_163 c0_i32_166
  let v183 : BitVec 32 := Scalar.extui v182
  let c0_i32_167 : BitVec 32 := 0#32
  let v184 : BitVec 1 := Scalar.cmpi .slt c4_i32_163 c0_i32_167
  let v185 : BitVec 32 := Scalar.extui v184
  let v186 : BitVec 32 := Scalar.subi v183 v185
  let v187 : BitVec 1 := Scalar.cmpi .ne v181 v186
  let v188 : BitVec 32 := Scalar.remsi v167 c4_i32_163
  let c0_i32_168 : BitVec 32 := 0#32
  let v189 : BitVec 1 := Scalar.cmpi .ne v188 c0_i32_168
  let v190 : BitVec 1 := Scalar.andi v187 v189
  let v176 : BitVec 32 := Scalar.divsi v167 c4_i32_163
  let c1_i32_169 : BitVec 32 := 1#32
  let v191 : BitVec 32 := Scalar.subi v176 c1_i32_169
  let v192 : BitVec 32 := Scalar.select v190 v191 v176
  v192
def k0_off136 (i : grid0.Coords) : Fin 2 → Nat :=
  let c61440_i32 : BitVec 32 := 61440#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c61440_i32 v2
  let c2_i32_24 : BitVec 32 := 2#32
  let c0_i32_23 : BitVec 32 := 0#32
  let v40 : BitVec 32 := Scalar.muli c2_i32_24 c0_i32_23
  let c2_i32_153 : BitVec 32 := 2#32
  let v165 : BitVec 32 := Scalar.addi v40 c2_i32_153
  let c64_i32_154 : BitVec 32 := 64#32
  let v166 : BitVec 32 := Scalar.muli v165 c64_i32_154
  let v167 : BitVec 32 := Scalar.addi v3 v166
  let c0_i32_164 : BitVec 32 := 0#32
  let v177 : BitVec 1 := Scalar.cmpi .sgt v167 c0_i32_164
  let v178 : BitVec 32 := Scalar.extui v177
  let c0_i32_165 : BitVec 32 := 0#32
  let v179 : BitVec 1 := Scalar.cmpi .slt v167 c0_i32_165
  let v180 : BitVec 32 := Scalar.extui v179
  let v181 : BitVec 32 := Scalar.subi v178 v180
  let c4_i32_163 : BitVec 32 := 4#32
  let c0_i32_166 : BitVec 32 := 0#32
  let v182 : BitVec 1 := Scalar.cmpi .sgt c4_i32_163 c0_i32_166
  let v183 : BitVec 32 := Scalar.extui v182
  let c0_i32_167 : BitVec 32 := 0#32
  let v184 : BitVec 1 := Scalar.cmpi .slt c4_i32_163 c0_i32_167
  let v185 : BitVec 32 := Scalar.extui v184
  let v186 : BitVec 32 := Scalar.subi v183 v185
  let v187 : BitVec 1 := Scalar.cmpi .ne v181 v186
  let v188 : BitVec 32 := Scalar.remsi v167 c4_i32_163
  let c0_i32_168 : BitVec 32 := 0#32
  let v189 : BitVec 1 := Scalar.cmpi .ne v188 c0_i32_168
  let v190 : BitVec 1 := Scalar.andi v187 v189
  let v176 : BitVec 32 := Scalar.divsi v167 c4_i32_163
  let c1_i32_169 : BitVec 32 := 1#32
  let v191 : BitVec 32 := Scalar.subi v176 c1_i32_169
  let v192 : BitVec 32 := Scalar.select v190 v191 v176
  let v193 : BitVec 32 := v192
  let c0_i32_174 : BitVec 32 := 0#32
  ![v193.toNat, 0]
abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x512 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S65536x512 : Shape := ⟨2, ![65536, 512]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x512, .i1⟩
  | .hbm, ⟨2, _⟩ => ⟨S_, .f32⟩
  | .hbm, ⟨3, _⟩ => ⟨S65536x512, .f32⟩
  | .hbm, ⟨4, _⟩ => ⟨S65536x512, .f32⟩
  | .hbm, ⟨5, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Trip.lean ====
/-
  One trip of the kernel's compute loop, written once.

  The printed body of the loop is one long sequence of loads and stores: for each of the 32 groups of 16 lanes of a
  row of mask words, one load of the words, and for each of the four bytes of a word one load of a row of `x`, one load
  whose result is not used, and one store. Here the same sequence is written by recursion on the group, over the slot
  (0 or 1) and the trip; `body_one` and `body_two` state that the two printed loop bodies are this program.
-/
module

public import proofs.«01_k».proof.Proof.Gen.KernelIdeal
public import proofs.«01_k».proof.Proof.Gen.KernelIdeal.Skeleton

@[expose] public section

noncomputable section

namespace Cert.Proof.Tile

open Cert.KernelIdeal Cert.KernelIdeal.Gen
open Idealize.ShloMosaic Idealize.SL.Sem

variable {F : FTy → Type} [FloatOps F]

/-- The counter of trip `t` of a loop from 0 in steps of 1. -/
abbrev ctr (t : ℕ) : BitVec 32 := Scf.iv 0#32 1#32 t
/-- The row of `x` a trip treats for byte `q` of its words: four times the counter, plus `q`. -/
abbrev rowOf (t q : ℕ) : BitVec 32 := Scalar.addi (Scalar.muli (ctr t) 4#32) (BitVec.ofNat 32 q)

/-- Where trip `t` reads the words of group `c` of slot `s`. -/
abbrev offM (s t c : ℕ) : Fin 3 → ℕ := ![s, (Scalar.indexCast (ctr t)).toNat, 16 * c]
/-- Where trip `t` reads and writes `x` for byte `q` of the words of group `c` of slot `s`. -/
abbrev offX (s t c q : ℕ) : Fin 3 → ℕ := ![s, (Scalar.indexCast (rowOf t q)).toNat, 16 * c]

theorem ctr_toNat {t : ℕ} (ht : t < 16) : (Scalar.indexCast (ctr t)).toNat = t := by
  have h : ∀ t : Fin 16, (Scalar.indexCast (ctr t.val)).toNat = t.val := by decide
  exact h ⟨t, ht⟩
theorem rowOf_toNat {t q : ℕ} (ht : t < 16) (hq : q < 4) : (Scalar.indexCast (rowOf t q)).toNat = 4 * t + q := by
  have h : ∀ (t : Fin 16) (q : Fin 4), (Scalar.indexCast (rowOf t.val q.val)).toNat = 4 * t.val + q.val := by decide
  exact h ⟨t, ht⟩ ⟨q, hq⟩

theorem offM_inb {s t c : ℕ} (hs : s < 2) (ht : t < 16) (hc : c < 32) : ∀ a, offM s t c a + S1x1x16.size a ≤ S2x16x512.size a := by
  have := ctr_toNat ht
  intro a; fin_cases a
  · show s + 1 ≤ 2; omega
  · show (Scalar.indexCast (ctr t)).toNat + 1 ≤ 16; omega
  · show 16 * c + 16 ≤ 512; omega
theorem offX_inb {s t c q : ℕ} (hs : s < 2) (ht : t < 16) (hc : c < 32) (hq : q < 4) : ∀ a, offX s t c q a + S1x1x16.size a ≤ S2x64x512.size a := by
  have := rowOf_toNat ht hq
  intro a; fin_cases a
  · show s + 1 ≤ 2; omega
  · show (Scalar.indexCast (rowOf t q)).toNat + 1 ≤ 64; omega
  · show 16 * c + 16 ≤ 512; omega

/-- What is stored for byte `q`: the row of `x` plus the lowest bit of that byte of each word, as a number. -/
def sum16 (q : ℕ) (w : Vec F S1x1x16 .i32) (x : Vec F S1x1x16 .f32) : Vec F S1x1x16 .f32 :=
  shapeCast S1x1x16 (addf (shapeCast S16 x shapeCasts_S1x1x16_S16)
    (uitofp .f32 (andi (shrui (shapeCast S16 w shapeCasts_S1x1x16_S16 : IVec S16 32) (broadcast S16 (BitVec.ofNat 32 (8 * q)))) (broadcast S16 1#32)) : FVec F S16 .f32)) shapeCasts_S16_S1x1x16

/-- A program of the vector subcore at grid point `i`, returning the loop's carried value. -/
abbrev PT (F : FTy → Type) (i : grid0.Coords) : Type 1 :=
  Prog (TpuEff nD τ sig (Elt F) Λ₀ (.scVector ((i 0).castLE hcore0) ((i 1).castLE hsub0))) (BitVec 32)

section Prog

variable (i : grid0.Coords) (xb : Memref sig .scVector .vmem S2x64x512 .f32) (mb : Memref sig .scVector .vmem S2x16x512 .i32)

/-- Byte `q` of group `c`: read the row of `x`, read it again, store the sum. -/
def byteK {s t c q : ℕ} (hs : s < 2) (ht : t < 16) (hc : c < 32) (hq : q < 4) (w : Vec F S1x1x16 .i32) (k : PT F i) : PT F i :=
  .op (.load xb (Rect.unit (s := S2x64x512) (offX s t c q) S1x1x16.size (offX_inb hs ht hc hq)).toLoadRect (View.loadsAt_vmem h_S1x1x16)) fun x =>
  .op (.load xb (Rect.unit (s := S2x64x512) (offX s t c q) S1x1x16.size (offX_inb hs ht hc hq)).toLoadRect (View.loadsAt_vmem h_S1x1x16)) fun _ =>
  .op (.store xb (Rect.unit (s := S2x64x512) (offX s t c q) S1x1x16.size (offX_inb hs ht hc hq)) (sum16 q w x) Finset.univ (View.stores_vmem_bits_univ h_S1x1x16 rfl) (.inl rfl)) fun _ => k

/-- Group `c`: read the words, then the four bytes. -/
def groupK {s t c : ℕ} (hs : s < 2) (ht : t < 16) (hc : c < 32) (k : PT F i) : PT F i :=
  .op (.load mb (Rect.unit (s := S2x16x512) (offM s t c) S1x1x16.size (offM_inb hs ht hc)).toLoadRect (View.loadsAt_vmem h_S1x1x16)) fun w =>
    byteK i xb (q := 0) hs ht hc (by decide) w <| byteK i xb (q := 1) hs ht hc (by decide) w <|
    byteK i xb (q := 2) hs ht hc (by decide) w <| byteK i xb (q := 3) hs ht hc (by decide) w k

/-- Groups `c`, `c + 1`, … — `n` of them —, then the loop's carried value. -/
def groups {s t : ℕ} (hs : s < 2) (ht : t < 16) : (n c : ℕ) → c + n ≤ 32 → PT F i
  | 0, _, _ => .ret 0#32
  | n + 1, c, h => groupK i xb mb hs ht (c := c) (by omega) (groups hs ht n (c + 1) (by omega))

end Prog

theorem trips_one : k0_t1_loop.trips = 16 := by decide
theorem trips_two : k0_t2_loop.trips = 16 := by decide

set_option maxRecDepth 100000 in
/-- The printed body of the loop over slot 0 is the program above. -/
theorem body_one (i : grid0.Coords) (arg2 : Memref sig .scVector .hbm S65536x512 .f32) (harg2 : arg2.IsWhole) (arg3 : Memref sig .scVector .hbm S16384x512 .i32) (harg3 : arg3.IsWhole) (arg4 : Memref sig .scVector .hbm S4096x512 .f32) (harg4 : arg4.IsWhole) (arg5 : Memref sig .scVector .vmem S2x64x512 .f32) (harg5 : arg5.IsWhole) (arg6 : Memref sig .scVector .vmem S2x16x512 .i32) (harg6 : arg6.IsWhole) (arg7 : DmaSems sig S2) (arg8 : DmaSems sig S2) (arg9 : DmaSems sig S2) (v4 : BitVec 32) (v40 : BitVec 32) (t : Fin k0_t1_loop.trips) (acc : BitVec 32) :
    k0_t1_body (F := F) i arg2 harg2 arg3 harg3 arg4 harg4 arg5 harg5 arg6 harg6 arg7 arg8 arg9 v4 v40 t acc
      = groups i arg5 arg6 (s := 0) (t := t.val) (by decide) (t.isLt.trans_eq trips_one) 32 0 (by decide) := rfl

set_option maxRecDepth 100000 in
/-- The printed body of the loop over slot 1 is the program above. -/
theorem body_two (i : grid0.Coords) (arg2 : Memref sig .scVector .hbm S65536x512 .f32) (harg2 : arg2.IsWhole) (arg3 : Memref sig .scVector .hbm S16384x512 .i32) (harg3 : arg3.IsWhole) (arg4 : Memref sig .scVector .hbm S4096x512 .f32) (harg4 : arg4.IsWhole) (arg5 : Memref sig .scVector .vmem S2x64x512 .f32) (harg5 : arg5.IsWhole) (arg6 : Memref sig .scVector .vmem S2x16x512 .i32) (harg6 : arg6.IsWhole) (arg7 : DmaSems sig S2) (arg8 : DmaSems sig S2) (arg9 : DmaSems sig S2) (v3 : BitVec 32) (v4 : BitVec 32) (c0_i32_23 : BitVec 32) (v40 : BitVec 32) (v42 : BitVec 32) (t : Fin k0_t2_loop.trips) (acc : BitVec 32) :
    k0_t2_body (F := F) i arg2 harg2 arg3 harg3 arg4 harg4 arg5 harg5 arg6 harg6 arg7 arg8 arg9 v3 v4 c0_i32_23 v40 v42 t acc
      = groups i arg5 arg6 (s := 1) (t := t.val) (by decide) (t.isLt.trans_eq trips_two) 32 0 (by decide) := rfl

end Cert.Proof.Tile

end
-- ==== Proof.Slot.lean ====
/-
  What a slot of the two scratch buffers holds while the compute loop runs, as plain functions of indices, and how one
  store of 16 lanes changes it.

  The loop treats the elements of a slot in a fixed order; `rank` is an element's place in units of one store. After `N`
  stores the elements of rank below `N` hold the sum and the others what was fetched (`upto`).
-/
module

public import proofs.«01_k».proof.Proof.Trip
public import Idealize.ShloMosaic.Lib.Pipeline.Value

@[expose] public section

noncomputable section

namespace Cert.Proof.Tile

open Cert.KernelIdeal Cert.KernelIdeal.Gen
open Idealize.ShloMosaic

variable {F : FTy → Type} [FloatOps F]

/-- The two scratch buffers: two slots of 64 rows of `x`, and two slots of 16 rows of mask words. -/
abbrev xB : Memref sig Kind.scVector Space.vmem S2x64x512 EltTy.f32 := Memref.whole cc0_scratch0
abbrev mB : Memref sig Kind.scVector Space.vmem S2x16x512 EltTy.i32 := Memref.whole cc0_scratch1

/-- The number of the store that treats element `y` of a slot. -/
def rank (y : S2x64x512.Idx) : ℕ := (y 1).val / 4 * 128 + (y 2).val / 16 * 4 + (y 1).val % 4

/-- The word whose byte `row mod 4` is the mask of element `y`. -/
def wordIx (y : S2x64x512.Idx) : S2x16x512.Idx := fun
  | 0 => y 0
  | 1 => ⟨(y 1).val / 4, by have h : (y 1).val < 64 := (y 1).isLt; show (y 1).val / 4 < 16; omega⟩
  | 2 => y 2
  | ⟨_ + 3, h⟩ => absurd h (Nat.not_lt.2 (Nat.le_add_left _ _))

/-- The lowest bit of byte `q` of a word. -/
def bitOf (q : ℕ) (w : BitVec 32) : BitVec 32 := IntOp.andi (IntOp.shrui .vector w (BitVec.ofNat 32 (8 * q))) 1#32

/-- A value plus the lowest bit of byte `q` of a word. -/
def sumBit (q : ℕ) (w : BitVec 32) (x : F .f32) : F .f32 := FloatOps.addf x (FloatOps.uitofp .f32 (bitOf q w))

/-- Element `y` of the sum over a slot of words `w` and fetched rows `g`. -/
def sumAt (w : Vec F S2x16x512 .i32) (g : Vec F S2x64x512 .f32) (y : S2x64x512.Idx) : F .f32 :=
  sumBit ((y 1).val % 4) (w (wordIx y)) (g y)

/-- The buffer after the first `N` stores of the loop over slot `s`. -/
def upto (s N : ℕ) (w : Vec F S2x16x512 .i32) (g : Vec F S2x64x512 .f32) : Vec F S2x64x512 .f32 :=
  fun y => if (y 0).val = s ∧ rank y < N then sumAt w g y else g y

theorem upto_zero (s : ℕ) (w : Vec F S2x16x512 .i32) (g : Vec F S2x64x512 .f32) : upto s 0 w g = g :=
  funext fun _ => if_neg fun h => Nat.not_lt_zero _ h.2

theorem rank_lt (y : S2x64x512.Idx) : rank y < 2048 := by
  have h1 : (y 1).val < 64 := (y 1).isLt
  have h2 : (y 2).val < 512 := (y 2).isLt
  unfold rank; omega

/-- After all 2048 stores every element of the slot holds the sum. -/
theorem upto_all {s : ℕ} (w : Vec F S2x16x512 .i32) (g : Vec F S2x64x512 .f32) (y : S2x64x512.Idx) (hy : (y 0).val = s) :
    upto s 2048 w g y = sumAt w g y := if_pos ⟨hy, rank_lt y⟩

/-- The stored value lane by lane. -/
theorem sum16_apply (q : ℕ) (w : Vec F S1x1x16 .i32) (x : Vec F S1x1x16 .f32) (j : S1x1x16.Idx) :
    sum16 q w x j = sumBit q (w j) (x j) := by
  have hx := congrFun (shapeCast_shapeCast x shapeCasts_S1x1x16_S16 shapeCasts_S16_S1x1x16) j
  have hw := congrFun (shapeCast_shapeCast w shapeCasts_S1x1x16_S16 shapeCasts_S16_S1x1x16) j
  show FloatOps.addf (shapeCast S1x1x16 (shapeCast S16 x _) _ j) (FloatOps.uitofp .f32 (bitOf q (shapeCast S1x1x16 (shapeCast S16 w _) _ j))) = _
  rw [hx, hw]; rfl

section Rects

variable {s t c q : ℕ} (hs : s < 2) (ht : t < 16) (hc : c < 32) (hq : q < 4)

abbrev rectX : Rect S2x64x512 := Rect.unit (s := S2x64x512) (offX s t c q) S1x1x16.size (offX_inb hs ht hc hq)
abbrev rectM : Rect S2x16x512 := Rect.unit (s := S2x16x512) (offM s t c) S1x1x16.size (offM_inb hs ht hc)

theorem rectX_0 (j : S1x1x16.Idx) : ((rectX hs ht hc hq).emb j 0).val = s := by
  have h : (j 0).val < 1 := (j 0).isLt
  show s + 1 * (j 0).val = s; omega
theorem rectX_1 (j : S1x1x16.Idx) : ((rectX hs ht hc hq).emb j 1).val = 4 * t + q := by
  have h : (j 1).val < 1 := (j 1).isLt
  have := rowOf_toNat ht hq
  show (Scalar.indexCast (rowOf t q)).toNat + 1 * (j 1).val = _; omega
theorem rectX_2 (j : S1x1x16.Idx) : ((rectX hs ht hc hq).emb j 2).val = 16 * c + (j 2).val := by
  show 16 * c + 1 * (j 2).val = _; omega

theorem rank_rectX (j : S1x1x16.Idx) : rank ((rectX hs ht hc hq).emb j) = t * 128 + c * 4 + q := by
  have h : (j 2).val < 16 := (j 2).isLt
  unfold rank; rw [rectX_1, rectX_2]; omega

theorem wordIx_rectX (j : S1x1x16.Idx) : wordIx ((rectX hs ht hc hq).emb j) = (rectM hs ht hc).emb j := by
  have h0 : (j 0).val < 1 := (j 0).isLt
  have h1 : (j 1).val < 1 := (j 1).isLt
  have hm := ctr_toNat ht
  funext a
  fin_cases a
  · exact Fin.ext (rectX_0 hs ht hc hq j |>.trans (by show s = s + 1 * (j 0).val; omega))
  · refine Fin.ext ?_
    show ((rectX hs ht hc hq).emb j 1).val / 4 = (Scalar.indexCast (ctr t)).toNat + 1 * (j 1).val
    rw [rectX_1, hm]; omega
  · exact Fin.ext (rectX_2 hs ht hc hq j |>.trans (by show _ = 16 * c + 1 * (j 2).val; omega))

/-- An element of the slot whose turn it is lies in the rectangle stored. -/
theorem mem_rectX {y : S2x64x512.Idx} (h0 : (y 0).val = s) (hr : rank y = t * 128 + c * 4 + q) : ∃ j, (rectX hs ht hc hq).emb j = y := by
  have h1 : (y 1).val < 64 := (y 1).isLt
  have h2 : (y 2).val < 512 := (y 2).isLt
  unfold rank at hr
  refine ⟨fun | 0 => ⟨0, Nat.zero_lt_one⟩ | 1 => ⟨0, Nat.zero_lt_one⟩ | 2 => ⟨(y 2).val % 16, Nat.mod_lt _ (by decide)⟩ | ⟨_ + 3, h⟩ => absurd h (Nat.not_lt.2 (Nat.le_add_left _ _)), ?_⟩
  funext a
  fin_cases a
  · exact Fin.ext ((rectX_0 hs ht hc hq _).trans h0.symm)
  · exact Fin.ext ((rectX_1 hs ht hc hq _).trans (by show 4 * t + q = (y 1).val; omega))
  · exact Fin.ext ((rectX_2 hs ht hc hq _).trans (by show 16 * c + (y 2).val % 16 = (y 2).val; omega))

/-- Store number `t * 128 + c * 4 + q` takes the buffer after as many stores to the buffer after one more. -/
theorem write_upto (w : Vec F S2x16x512 .i32) (g : Vec F S2x64x512 .f32) :
    (xB.access (rectX hs ht hc hq)).write (Elt F) (upto s (t * 128 + c * 4 + q) w g)
        (sum16 q ((mB.access (rectM hs ht hc)).read (Elt F) w) ((xB.access (rectX hs ht hc hq)).read (Elt F) (upto s (t * 128 + c * 4 + q) w g))) Finset.univ
      = upto s (t * 128 + c * 4 + q + 1) w g := by
  funext y
  by_cases hy : ∃ j, (rectX hs ht hc hq).emb j = y
  · obtain ⟨j, rfl⟩ := hy
    have h := View.write_emb_of_mem (v := xB.access (rectX hs ht hc hq)) (Val := Elt F) (upto s (t * 128 + c * 4 + q) w g)
      (sum16 q ((mB.access (rectM hs ht hc)).read (Elt F) w) ((xB.access (rectX hs ht hc hq)).read (Elt F) (upto s (t * 128 + c * 4 + q) w g)))
      (M := Finset.univ) (x := j) (Finset.mem_univ _)
    refine h.trans ?_
    show sum16 q _ _ j = _
    rw [sum16_apply, upto, if_pos ⟨rectX_0 hs ht hc hq j, by rw [rank_rectX]; omega⟩, sumAt, wordIx_rectX, rectX_1,
      show (4 * t + q) % 4 = q by omega]
    show sumBit q (w ((rectM hs ht hc).emb j)) (upto s (t * 128 + c * 4 + q) w g ((rectX hs ht hc hq).emb j)) = _
    rw [upto, if_neg (by rw [rank_rectX]; omega)]
  · have h := View.write_of_not_mem (v := xB.access (rectX hs ht hc hq)) (Val := Elt F) (upto s (t * 128 + c * 4 + q) w g)
      (sum16 q ((mB.access (rectM hs ht hc)).read (Elt F) w) ((xB.access (rectX hs ht hc hq)).read (Elt F) (upto s (t * 128 + c * 4 + q) w g)))
      Finset.univ (i := y) (fun hm => by
        obtain ⟨j, -, hj⟩ := Finset.mem_map.mp hm
        exact hy ⟨j, hj⟩)
    refine h.trans ?_
    unfold upto
    by_cases h0 : (y 0).val = s
    · have hne : rank y ≠ t * 128 + c * 4 + q := fun hr => hy (mem_rectX hs ht hc hq h0 hr)
      refine if_congr ?_ rfl rfl
      constructor <;> rintro ⟨_, h2⟩ <;> exact ⟨h0, by omega⟩
    · rw [if_neg (fun h => h0 h.1), if_neg (fun h => h0 h.1)]

/-- The rectangles stored and read lie in their slots. -/
theorem rectX_sub {S : Finset S2x64x512.Idx} (hS : ∀ y : S2x64x512.Idx, (y 0).val = s → y ∈ S) : (xB.access (rectX hs ht hc hq)).set ⊆ S := by
  intro y hy
  obtain ⟨j, -, rfl⟩ := Finset.mem_map.mp hy
  exact hS _ (rectX_0 hs ht hc hq j)
theorem rectM_sub {S : Finset S2x16x512.Idx} (hS : ∀ y : S2x16x512.Idx, (y 0).val = s → y ∈ S) : (mB.access (rectM hs ht hc)).set ⊆ S := by
  intro y hy
  obtain ⟨j, -, rfl⟩ := Finset.mem_map.mp hy
  have h : (j 0).val < 1 := (j 0).isLt
  exact hS _ (by show s + 1 * (j 0).val = s; omega)

end Rects

end Cert.Proof.Tile

end
-- ==== Proof.Base.lean ====
/-
  The program as the launch theorem sees it, and the resource algebra of the proof: the handshakes' rounds, the rounds
  of the pipelined region's staging buffers, and the counters of the tiles' own transfers, side by side.
-/
module

public import proofs.«01_k».proof.Defs
public import proofs.«01_k».proof.Proof.Slot
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal.Launch

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the staging buffers' rounds, and all of it. -/
abbrev UH : Type := URounds (GSem nD τ sig) ℕ
abbrev UB : Type := URounds (GSem nD τ sig) Unit
abbrev UU : Type := UH × (UB × Counters)

/-- The algebra of the proof. -/
abbrev MM (F : FTy → Type) : Type := MT nD τ sig (HIx 1) (Elt F) ℕ UU ℕ

abbrev EH : Emb UH (MM F) := embL
abbrev EB : Emb UB (MM F) :=
  ((Emb.inl : Emb UB (UB × Counters)).trans (Emb.inr : Emb (UB × Counters) UU)).trans (uEmb (nD := nD) (τ := τ) (sig := sig) (Ix := HIx 1) (Val := Elt F) (Name := ℕ) (U := UU) (Lvl := ℕ)).toEmb

end Cert.Proof

end
-- ==== Proof.Loop.lean ====
/-
  The run of the compute loop over one slot: holding the slot of the two scratch buffers, the loop leaves the sums in it.
-/
module

public import proofs.«01_k».proof.Proof.Base

@[expose] public section

noncomputable section

namespace Cert.Proof.Tile

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

section Run

variable (i : grid0.Coords) (d : Dev nD)

/-- The tile at grid point `i`, as a thread of device `d`. -/
abbrev thr : Thread nD τ := SparseCore.V d ((i 0).castLE hcore0) ((i 1).castLE hsub0)

variable {s t c : ℕ} (hs : s < 2) (ht : t < 16) (hc : c < 32)
variable {Sx : Finset S2x64x512.Idx} {Sm : Finset S2x16x512.Idx}
  (hSx : ∀ y : S2x64x512.Idx, (y 0).val = s → y ∈ Sx) (hSm : ∀ y : S2x16x512.Idx, (y 0).val = s → y ∈ Sm)
  (w : Vec F S2x16x512 .i32) (g : Vec F S2x64x512 .f32)

/-- The slot of the buffer of rows, after `N` stores of the loop. -/
abbrev xHeld (Sx : Finset S2x64x512.Idx) (f : Vec F S2x64x512 .f32) : sProp 𝕄 := (xB.view.loc (thr i d)) ↦[Sx]{fullShare} f
/-- The slot of the buffer of words. -/
abbrev mHeld (Sm : Finset S2x16x512.Idx) (f : Vec F S2x16x512 .i32) : sProp 𝕄 := (mB.view.loc (thr i d)) ↦[Sm]{fullShare} f

include hSx in
/-- One byte of one group: one more store is done. -/
theorem wp_byteK {q : ℕ} (hq : q < 4) (k : PT F i) (Q : BitVec 32 → sProp 𝕄) :
    xHeld i d Sx (upto s (t * 128 + c * 4 + q) w g)
      ⊢ iprop((xHeld i d Sx (upto s (t * 128 + c * 4 + q + 1) w g) -∗ wp frame (wpE (defs₀ (F := F)) 𝒱₀ (thr i d) none) Set.univ k Q)
        -∗ wp frame (wpE (defs₀ (F := F)) 𝒱₀ (thr i d) none) Set.univ
            (byteK i xB hs ht hc hq ((mB.access (rectM hs ht hc)).read (Elt F) w) k) Q) := by
  unfold byteK
  iintro Hx Hk
  iapply (wp_load_rect (defs := defs₀ (F := F)) 𝒱₀ (thr i d) none Set.univ (m := xB) (r := rectX hs ht hc hq) (rectX_sub hs ht hc hq hSx)) $$ Hx
  iintro Hx
  iapply (wp_load_rect (defs := defs₀ (F := F)) 𝒱₀ (thr i d) none Set.univ (m := xB) (r := rectX hs ht hc hq) (rectX_sub hs ht hc hq hSx)) $$ Hx
  iintro Hx
  iapply (wp_store (defs := defs₀ (F := F)) 𝒱₀ (thr i d) none Set.univ (m := xB) (r := rectX hs ht hc hq) (rectX_sub hs ht hc hq hSx)) $$ Hx
  iintro Hx
  rw [write_upto hs ht hc hq w g]
  iapply Hk; iexact Hx

include hSx hSm in
/-- One group: four more stores are done. -/
theorem wp_groupK (k : PT F i) (Q : BitVec 32 → sProp 𝕄) :
    iprop(mHeld i d Sm w ∗ xHeld i d Sx (upto s (t * 128 + c * 4) w g))
      ⊢ iprop((iprop(mHeld i d Sm w ∗ xHeld i d Sx (upto s (t * 128 + (c + 1) * 4) w g)) -∗ wp frame (wpE (defs₀ (F := F)) 𝒱₀ (thr i d) none) Set.univ k Q)
        -∗ wp frame (wpE (defs₀ (F := F)) 𝒱₀ (thr i d) none) Set.univ (groupK i xB mB hs ht hc k) Q) := by
  unfold groupK
  iintro ⟨Hm, Hx⟩ Hk
  iapply (wp_load_rect (defs := defs₀ (F := F)) 𝒱₀ (thr i d) none Set.univ (m := mB) (r := rectM hs ht hc) (rectM_sub hs ht hc hSm)) $$ Hm
  iintro Hm
  iapply (wp_byteK i d hs ht hc hSx w g (q := 0) _) $$ Hx
  iintro Hx
  iapply (wp_byteK i d hs ht hc hSx w g (q := 1) _) $$ Hx
  iintro Hx
  iapply (wp_byteK i d hs ht hc hSx w g (q := 2) _) $$ Hx
  iintro Hx
  iapply (wp_byteK i d hs ht hc hSx w g (q := 3) _) $$ Hx
  iintro Hx
  iapply Hk
  rw [show t * 128 + (c + 1) * 4 = t * 128 + c * 4 + 3 + 1 by omega]
  isplitl [Hm]; · iexact Hm
  iexact Hx

include hSx hSm in
/-- The groups from `c` on: one trip's stores are done at the end. -/
theorem wp_groups (Q : BitVec 32 → sProp 𝕄) : ∀ (n c : ℕ) (h : c + n ≤ 32), c + n = 32 →
    iprop(mHeld i d Sm w ∗ xHeld i d Sx (upto s (t * 128 + c * 4) w g))
      ⊢ iprop((iprop(mHeld i d Sm w ∗ xHeld i d Sx (upto s ((t + 1) * 128) w g)) -∗ Q 0#32)
        -∗ wp frame (wpE (defs₀ (F := F)) 𝒱₀ (thr i d) none) Set.univ (groups i xB mB hs ht n c h) Q)
  | 0, c, h, e => by
    obtain rfl : c = 32 := by omega
    unfold groups
    rw [show t * 128 + 32 * 4 = (t + 1) * 128 by omega]
    iintro H Hk
    iapply (Idealize.SL.Sem.le_wp_ret _ _)
    iapply Hk; iexact H
  | n + 1, c, h, e => by
    unfold groups
    iintro H Hk
    iapply (wp_groupK i d hs ht _ hSx hSm w g) $$ H
    iintro H
    iapply (wp_groups Q n (c + 1) _ (by omega)) $$ H
    iexact Hk

include hSx hSm in
/-- One trip of the compute loop. -/
theorem wp_trip (h : 0 + 32 ≤ 32) :
    iprop(mHeld i d Sm w ∗ xHeld i d Sx (upto s (t * 128) w g))
      ⊢ wp frame (wpE (defs₀ (F := F)) 𝒱₀ (thr i d) none) Set.univ (groups i xB mB hs ht 32 0 h)
          fun _ => iprop(mHeld i d Sm w ∗ xHeld i d Sx (upto s ((t + 1) * 128) w g)) := by
  have e : t * 128 = t * 128 + 0 * 4 := by omega
  rw [e]
  iintro H
  iapply (wp_groups i d hs ht hSx hSm w g _ 32 0 h rfl) $$ H
  iintro H; iexact H

end Run

end Cert.Proof.Tile

end
-- ==== Proof.Tile.lean ====
/-
  One tile's body: two chunks of 64 rows, each fetched with its words, treated by the compute loop, and written out.
-/
module

public import proofs.«01_k».proof.Proof.Loop

@[expose] public section

noncomputable section

namespace Cert.Proof.Tile

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

-- the arrays as the body is passed them
local notation "xV" => (Memref.whole Cert.KernelIdeal.main_arg0_scv : Memref Cert.KernelIdeal.sig Kind.scVector Space.hbm Cert.KernelIdeal.S65536x512 EltTy.f32)
local notation "wV" => (Memref.whole Cert.KernelIdeal.main_v4_scv : Memref Cert.KernelIdeal.sig Kind.scVector Space.hbm Cert.KernelIdeal.S16384x512 EltTy.i32)
local notation "oV" => (Memref.whole Cert.KernelIdeal.main_v5_scv : Memref Cert.KernelIdeal.sig Kind.scVector Space.hbm Cert.KernelIdeal.S4096x512 EltTy.f32)
local notation "xb" => (Memref.whole Cert.KernelIdeal.cc0_scratch0 : Memref Cert.KernelIdeal.sig Kind.scVector Space.vmem Cert.KernelIdeal.S2x64x512 EltTy.f32)
local notation "mb" => (Memref.whole Cert.KernelIdeal.cc0_scratch1 : Memref Cert.KernelIdeal.sig Kind.scVector Space.vmem Cert.KernelIdeal.S2x16x512 EltTy.i32)

section Pieces

variable (i : grid0.Coords)

/-- The rows of `x` of the tile's two chunks, -/
abbrev xP0 : Memref sig .scVector .hbm S64x512 .f32 := (xV).slice (Rect.unit (s := S65536x512) (k0_off1 i) S64x512.size (k0_off1_inb i)) (fun _ => rfl)
abbrev xP1 : Memref sig .scVector .hbm S64x512 .f32 := (xV).slice (Rect.unit (s := S65536x512) (k0_off3 i) S64x512.size (k0_off3_inb i)) (fun _ => rfl)
/-- their words, -/
abbrev wP0 : Memref sig .scVector .hbm S16x512 .i32 := (wV).slice (Rect.unit (s := S16384x512) (k0_off2 i) S16x512.size (k0_off2_inb i)) (fun _ => rfl)
abbrev wP1 : Memref sig .scVector .hbm S16x512 .i32 := (wV).slice (Rect.unit (s := S16384x512) (k0_off4 i) S16x512.size (k0_off4_inb i)) (fun _ => rfl)
/-- and the rows of the result. -/
abbrev oP0 : Memref sig .scVector .hbm S64x512 .f32 := (oV).slice (Rect.unit (s := S4096x512) (k0_off69 i) S64x512.size (k0_off69_inb i)) (fun _ => rfl)
abbrev oP1 : Memref sig .scVector .hbm S64x512 .f32 := (oV).slice (Rect.unit (s := S4096x512) (k0_off134 i) S64x512.size (k0_off134_inb i)) (fun _ => rfl)
/-- The two slots of the buffer of rows and of the buffer of words. -/
abbrev xS0 : Memref sig .scVector .vmem S64x512 .f32 := ((xb).slice (Rect.unit (s := S2x64x512) ![0, 0, 0] S1x64x512.size inb_S2x64x512_S1x64x512_0_0_0) (fun _ => rfl)).squeeze S64x512 squeezes_S1x64x512_S64x512
abbrev xS1 : Memref sig .scVector .vmem S64x512 .f32 := ((xb).slice (Rect.unit (s := S2x64x512) ![1, 0, 0] S1x64x512.size inb_S2x64x512_S1x64x512_1_0_0) (fun _ => rfl)).squeeze S64x512 squeezes_S1x64x512_S64x512
abbrev wS0 : Memref sig .scVector .vmem S16x512 .i32 := ((mb).slice (Rect.unit (s := S2x16x512) ![0, 0, 0] S1x16x512.size inb_S2x16x512_S1x16x512_0_0_0) (fun _ => rfl)).squeeze S16x512 squeezes_S1x16x512_S16x512
abbrev wS1 : Memref sig .scVector .vmem S16x512 .i32 := ((mb).slice (Rect.unit (s := S2x16x512) ![1, 0, 0] S1x16x512.size inb_S2x16x512_S1x16x512_1_0_0) (fun _ => rfl)).squeeze S16x512 squeezes_S1x16x512_S16x512

end Pieces

/-- What a memref's elements hold, held in full. -/
abbrev own (i : grid0.Coords) (d : Dev nD) {sp : Space} {s : Shape} {e : EltTy} (v : Memref sig .scVector sp s e) (f : Buf (Elt F) (v.view.loc (thr i d))) : sProp 𝕄 :=
  v.view.loc (thr i d) ↦[v.view.set]{fullShare} f

/-- The tile's six DMA semaphores. -/
abbrev sX0 : SemLoc sig := .dma (cc0_scratch2.slice (Rect.unit (s := S2) ![0] S1.size inb_S2_S1_0) |>.squeeze S_ squeezes_S1_S_).sem
abbrev sX1 : SemLoc sig := .dma (cc0_scratch2.slice (Rect.unit (s := S2) ![1] S1.size inb_S2_S1_1) |>.squeeze S_ squeezes_S1_S_).sem
abbrev sW0 : SemLoc sig := .dma (cc0_scratch3.slice (Rect.unit (s := S2) ![0] S1.size inb_S2_S1_0) |>.squeeze S_ squeezes_S1_S_).sem
abbrev sW1 : SemLoc sig := .dma (cc0_scratch3.slice (Rect.unit (s := S2) ![1] S1.size inb_S2_S1_1) |>.squeeze S_ squeezes_S1_S_).sem
abbrev sO0 : SemLoc sig := .dma (cc0_scratch4.slice (Rect.unit (s := S2) ![0] S1.size inb_S2_S1_0) |>.squeeze S_ squeezes_S1_S_).sem
abbrev sO1 : SemLoc sig := .dma (cc0_scratch4.slice (Rect.unit (s := S2) ![1] S1.size inb_S2_S1_1) |>.squeeze S_ squeezes_S1_S_).sem

theorem slotX0 (y : S2x64x512.Idx) (h : (y 0).val = 0) : y ∈ (xS0.view.set : Finset S2x64x512.Idx) := by
  have h1 : (y 1).val < 64 := (y 1).isLt
  have h2 : (y 2).val < 512 := (y 2).isLt
  rw [View.set_reshape, View.set_slice_whole, Rect.mem_set_unit]
  intro a; fin_cases a
  · exact ⟨h.ge, h.trans_lt (by decide)⟩
  · exact ⟨Nat.zero_le _, h1.trans_eq (by decide)⟩
  · exact ⟨Nat.zero_le _, h2.trans_eq (by decide)⟩
theorem slotX1 (y : S2x64x512.Idx) (h : (y 0).val = 1) : y ∈ (xS1.view.set : Finset S2x64x512.Idx) := by
  have h1 : (y 1).val < 64 := (y 1).isLt
  have h2 : (y 2).val < 512 := (y 2).isLt
  rw [View.set_reshape, View.set_slice_whole, Rect.mem_set_unit]
  intro a; fin_cases a
  · exact ⟨h.ge, h.trans_lt (by decide)⟩
  · exact ⟨Nat.zero_le _, h1.trans_eq (by decide)⟩
  · exact ⟨Nat.zero_le _, h2.trans_eq (by decide)⟩
theorem slotW0 (y : S2x16x512.Idx) (h : (y 0).val = 0) : y ∈ (wS0.view.set : Finset S2x16x512.Idx) := by
  have h1 : (y 1).val < 16 := (y 1).isLt
  have h2 : (y 2).val < 512 := (y 2).isLt
  rw [View.set_reshape, View.set_slice_whole, Rect.mem_set_unit]
  intro a; fin_cases a
  · exact ⟨h.ge, h.trans_lt (by decide)⟩
  · exact ⟨Nat.zero_le _, h1.trans_eq (by decide)⟩
  · exact ⟨Nat.zero_le _, h2.trans_eq (by decide)⟩
theorem slotW1 (y : S2x16x512.Idx) (h : (y 0).val = 1) : y ∈ (wS1.view.set : Finset S2x16x512.Idx) := by
  have h1 : (y 1).val < 16 := (y 1).isLt
  have h2 : (y 2).val < 512 := (y 2).isLt
  rw [View.set_reshape, View.set_slice_whole, Rect.mem_set_unit]
  intro a; fin_cases a
  · exact ⟨h.ge, h.trans_lt (by decide)⟩
  · exact ⟨Nat.zero_le _, h1.trans_eq (by decide)⟩
  · exact ⟨Nat.zero_le _, h2.trans_eq (by decide)⟩

/-- What the two buffers hold once a chunk's rows and words have been fetched into a slot. -/
abbrev rowsIn (v : Memref sig .scVector .vmem S64x512 .f32) (p : Memref sig .scVector .hbm S64x512 .f32) (fx : p.view.ty.Contents (Elt F)) (g : v.view.ty.Contents (Elt F)) : v.view.ty.Contents (Elt F) :=
  v.view.writes (Elt F) g [⟨Rect.whole S64x512, p.view.read (Elt F) fx⟩]
abbrev wordsIn (v : Memref sig .scVector .vmem S16x512 .i32) (p : Memref sig .scVector .hbm S16x512 .i32) (fw : p.view.ty.Contents (Elt F)) (g : v.view.ty.Contents (Elt F)) : v.view.ty.Contents (Elt F) :=
  v.view.writes (Elt F) g [⟨Rect.whole S16x512, p.view.read (Elt F) fw⟩]

/-- What a slot holds when its compute loop is over. -/
abbrev sums0 (i : grid0.Coords) (fx : Vec F S65536x512 .f32) (fw : Vec F S16384x512 .i32) (gx : Vec F S2x64x512 .f32) (gw : Vec F S2x16x512 .i32) : Vec F S2x64x512 .f32 :=
  upto 0 2048 (wordsIn wS0 (wP0 i) fw gw) (rowsIn xS0 (xP0 i) fx gx)
abbrev sums1 (i : grid0.Coords) (fx : Vec F S65536x512 .f32) (fw : Vec F S16384x512 .i32) (gx : Vec F S2x64x512 .f32) (gw : Vec F S2x16x512 .i32) : Vec F S2x64x512 .f32 :=
  upto 1 2048 (wordsIn wS1 (wP1 i) fw gw) (rowsIn xS1 (xP1 i) fx gx)

set_option maxRecDepth 100000 in
set_option maxHeartbeats 1000000 in
/-- The body's run: the rows and words it was passed come back unchanged, and each chunk of the result holds what its
    slot held after the compute loop. -/
theorem body_run (i : grid0.Coords) (d : Dev nD) (fx : Vec F S65536x512 .f32) (fw : Vec F S16384x512 .i32) (fo : Vec F S4096x512 .f32)
    (gx : Vec F S2x64x512 .f32) (gw : Vec F S2x16x512 .i32)
    (O : CellTallies nD τ sig (HIx 1)) (W : Waits sig (HIx 1)) (hO : ∀ g, O g none = 0) :
    iprop(levAts (K (F := F)).L (K (F := F)).lev
        ∗ own i d (xP0 i) fx ∗ own i d (xP1 i) fx ∗ own i d (wP0 i) fw ∗ own i d (wP1 i) fw ∗ own i d (oP0 i) fo ∗ own i d (oP1 i) fo
        ∗ own i d xS0 gx ∗ own i d xS1 gx ∗ own i d wS0 gw ∗ own i d wS1 gw
        ∗ semVal (thr i d, sX0) 0 ∗ semVal (thr i d, sX1) 0 ∗ semVal (thr i d, sW0) 0 ∗ semVal (thr i d, sW1) 0 ∗ semVal (thr i d, sO0) 0 ∗ semVal (thr i d, sO1) 0
        ∗ owes (thr i d) O W)
      ⊢ wp frame (wpE (defs₀ (F := F)) 𝒱₀ (thr i d) none) Set.univ
          (cc0_k i xV (Memref.isWhole_whole _) wV (Memref.isWhole_whole _) oV (Memref.isWhole_whole _)
            xb (Memref.isWhole_whole _) mb (Memref.isWhole_whole _) cc0_scratch2 cc0_scratch3 cc0_scratch4)
          fun _ => iprop(own i d (xP0 i) fx ∗ own i d (xP1 i) fx ∗ own i d (wP0 i) fw ∗ own i d (wP1 i) fw
            ∗ own i d (oP0 i) ((oP0 i).view.writes (Elt F) fo [⟨Rect.whole S64x512, xS0.view.read (Elt F) (sums0 i fx fw gx gw)⟩])
            ∗ own i d (oP1 i) ((oP1 i).view.writes (Elt F) fo [⟨Rect.whole S64x512, xS1.view.read (Elt F) (sums1 i fx fw gx gw)⟩])
            ∗ own i d xS0 (sums0 i fx fw gx gw) ∗ own i d xS1 (sums1 i fx fw gx gw)
            ∗ own i d wS0 (wordsIn wS0 (wP0 i) fw gw) ∗ own i d wS1 (wordsIn wS1 (wP1 i) fw gw)
            ∗ semVal (thr i d, sX0) 0 ∗ semVal (thr i d, sX1) 0 ∗ semVal (thr i d, sW0) 0 ∗ semVal (thr i d, sW1) 0 ∗ semVal (thr i d, sO0) 0 ∗ semVal (thr i d, sO1) 0
            ∗ ∃ W', ⌜∀ p ∈ W', p ∈ W ∨ p.2 = default⌝ ∗ owes (thr i d) O W') := by
  iintro ⟨#Hlv, Hx0, Hx1, Hw0, Hw1, Ho0, Ho1, Hb0, Hb1, Hm0, Hm1, HsX0, HsX1, HsW0, HsW1, HsO0, HsO1, HO⟩
  ihave Hmw := (show levAts (K (F := F)).L (K (F := F)).lev ⊢ Transfers.MayWaits (thr i d) (default : HIx 1) O from
    (K (F := F)).mayWaits_none (thr := thr i d) hO) $$ Hlv
  sl_unfold [cc0_k]
  sl_open_parts
  sl_exec
  rw [bind_assoc]
  sl_for (fun t _ => iprop(own i d wS0 (wordsIn wS0 (wP0 i) fw gw) ∗ own i d xS0 (upto 0 (t * 128) (wordsIn wS0 (wP0 i) fw gw) (rowsIn xS0 (xP0 i) fx gx)))) $$ [Hb0 Hm0]
  case region =>
    intro t acc
    exact wp_trip i d (s := 0) (t := t.val) (by decide) (t.isLt.trans_eq trips_one) slotX0 slotW0 (wordsIn wS0 (wP0 i) fw gw) (rowsIn xS0 (xP0 i) fx gx) (by decide)
  · isplitl [Hm0]; · iexact Hm0
    rw [upto_zero]; iexact Hb0
  iintro %acc H
  icases H with ⟨Hm0, Hb0⟩
  rw [show Scf.trips k0_t1_loop.lb k0_t1_loop.ub k0_t1_loop.st = 16 from trips_one]
  sl_exec
  rw [bind_assoc]
  sl_for (fun t _ => iprop(own i d wS1 (wordsIn wS1 (wP1 i) fw gw) ∗ own i d xS1 (upto 1 (t * 128) (wordsIn wS1 (wP1 i) fw gw) (rowsIn xS1 (xP1 i) fx gx)))) $$ [Hb1 Hm1]
  case region =>
    intro t acc
    exact wp_trip i d (s := 1) (t := t.val) (by decide) (t.isLt.trans_eq trips_two) slotX1 slotW1 (wordsIn wS1 (wP1 i) fw gw) (rowsIn xS1 (xP1 i) fx gx) (by decide)
  · isplitl [Hm1]; · iexact Hm1
    rw [upto_zero]; iexact Hb1
  iintro %acc H
  icases H with ⟨Hm1, Hb1⟩
  rw [show Scf.trips k0_t2_loop.lb k0_t2_loop.ub k0_t2_loop.st = 16 from trips_two]
  sl_exec
  iapply (Idealize.SL.Sem.le_wp_ret _ _)
  isplitl [Hx0]; · iexact Hx0
  isplitl [Hx1]; · iexact Hx1
  isplitl [Hw0]; · iexact Hw0
  isplitl [Hw1]; · iexact Hw1
  isplitl [Ho0]; · iexact Ho0
  isplitl [Ho1]; · iexact Ho1
  isplitl [Hb0]; · iexact Hb0
  isplitl [Hb1]; · iexact Hb1
  isplitl [Hm0]; · iexact Hm0
  isplitl [Hm1]; · iexact Hm1
  isplitl [HsX0]; · iexact HsX0
  isplitl [HsX1]; · iexact HsX1
  isplitl [HsW0]; · iexact HsW0
  isplitl [HsW1]; · iexact HsW1
  isplitl [HsO0]; · iexact HsO0
  isplitl [HsO1]; · iexact HsO1
  iexists (insert (sO1, default) (insert (sO0, default) (insert (sW1, default) (insert (sX1, default) (insert (sW0, default) (insert (sX0, default) W)))))); isplitl []
  · ipureintro
    intro p hp
    simp only [Finset.mem_insert] at hp
    rcases hp with rfl | rfl | rfl | rfl | rfl | rfl | h
    iterate 6 exact Or.inr rfl
    exact Or.inl h
  iexact HO

end Cert.Proof.Tile

end
-- ==== Proof.Chunk.lean ====
/-
  What the tile writes out, element by element: each chunk of the result holds, in row `r`, row `61440 + r` of the rows
  it was passed plus, at each column, the lowest bit of byte `r mod 4` of the word of that row and column.
-/
module

public import proofs.«01_k».proof.Proof.Tile

@[expose] public section

noncomputable section

namespace Cert.Proof.Tile

open Cert.KernelIdeal Cert.KernelIdeal.Gen
open Idealize.ShloMosaic

variable {F : FTy → Type} [FloatOps F]

/-- Row `61440 + r` of `x` at the column of `y`, for the result's element `y` in row `r`. -/
def rowIx (y : S4096x512.Idx) : S65536x512.Idx := fun
  | 0 => ⟨61440 + (y 0).val, by have h : (y 0).val < 4096 := (y 0).isLt; show 61440 + (y 0).val < 65536; omega⟩
  | 1 => y 1
  | ⟨_ + 2, h⟩ => absurd h (Nat.not_lt.2 (Nat.le_add_left _ _))

/-- The word of that row and column. -/
def maskIx (y : S4096x512.Idx) : S16384x512.Idx := fun
  | 0 => ⟨15360 + (y 0).val / 4, by have h : (y 0).val < 4096 := (y 0).isLt; show 15360 + (y 0).val / 4 < 16384; omega⟩
  | 1 => y 1
  | ⟨_ + 2, h⟩ => absurd h (Nat.not_lt.2 (Nat.le_add_left _ _))

/-- What the call leaves in the result. -/
def tileOut (x : Vec F S65536x512 .f32) (w : Vec F S16384x512 .i32) : Vec F S4096x512 .f32 :=
  fun y => sumBit ((y 0).val % 4) (w (maskIx y)) (x (rowIx y))

/-- Element `j` of slot `s` of the buffer of rows, and of the buffer of words. -/
def slotIx (s : Fin 2) (j : S64x512.Idx) : S2x64x512.Idx := fun
  | 0 => s
  | 1 => j 0
  | 2 => j 1
  | ⟨_ + 3, h⟩ => absurd h (Nat.not_lt.2 (Nat.le_add_left _ _))
def slotWordIx (s : Fin 2) (j : S16x512.Idx) : S2x16x512.Idx := fun
  | 0 => s
  | 1 => j 0
  | 2 => j 1
  | ⟨_ + 3, h⟩ => absurd h (Nat.not_lt.2 (Nat.le_add_left _ _))

/-- The one row of a slot, as the first axis of a shape with a leading unit axis. -/
def unitIx (j : S64x512.Idx) : S1x64x512.Idx := fun
  | 0 => ⟨0, Nat.zero_lt_one⟩
  | 1 => j 0
  | 2 => j 1
  | ⟨_ + 3, h⟩ => absurd h (Nat.not_lt.2 (Nat.le_add_left _ _))
def unitWordIx (j : S16x512.Idx) : S1x16x512.Idx := fun
  | 0 => ⟨0, Nat.zero_lt_one⟩
  | 1 => j 0
  | 2 => j 1
  | ⟨_ + 3, h⟩ => absurd h (Nat.not_lt.2 (Nat.le_add_left _ _))

theorem reshape_unitIx (h : S64x512.numel = S1x64x512.numel) (j : S64x512.Idx) : Shape.reshapeEquiv h j = unitIx j := by
  refine Shape.reshapeEquiv_eq_of_rowMajor h ?_
  rw [Shape.rowMajor_val_three, Shape.rowMajor_val_two]
  show (0 * 64 + (j 0).val) * 512 + (j 1).val = (j 0).val * 512 + (j 1).val
  omega
theorem reshape_unitWordIx (h : S16x512.numel = S1x16x512.numel) (j : S16x512.Idx) : Shape.reshapeEquiv h j = unitWordIx j := by
  refine Shape.reshapeEquiv_eq_of_rowMajor h ?_
  rw [Shape.rowMajor_val_three, Shape.rowMajor_val_two]
  show (0 * 16 + (j 0).val) * 512 + (j 1).val = (j 0).val * 512 + (j 1).val
  omega

theorem emb_xS0 (j : S64x512.Idx) : xS0.view.emb j = slotIx 0 j := by
  show (Rect.unit (s := S2x64x512) ![0, 0, 0] S1x64x512.size inb_S2x64x512_S1x64x512_0_0_0).emb (Shape.reshapeEquiv squeezes_S1x64x512_S64x512.numel_eq j) = _
  rw [reshape_unitIx]
  funext a; fin_cases a
  · rfl
  · exact Fin.ext (by show 0 + 1 * (j 0).val = (j 0).val; omega)
  · exact Fin.ext (by show 0 + 1 * (j 1).val = (j 1).val; omega)
theorem emb_xS1 (j : S64x512.Idx) : xS1.view.emb j = slotIx 1 j := by
  show (Rect.unit (s := S2x64x512) ![1, 0, 0] S1x64x512.size inb_S2x64x512_S1x64x512_1_0_0).emb (Shape.reshapeEquiv squeezes_S1x64x512_S64x512.numel_eq j) = _
  rw [reshape_unitIx]
  funext a; fin_cases a
  · rfl
  · exact Fin.ext (by show 0 + 1 * (j 0).val = (j 0).val; omega)
  · exact Fin.ext (by show 0 + 1 * (j 1).val = (j 1).val; omega)
theorem emb_wS0 (j : S16x512.Idx) : wS0.view.emb j = slotWordIx 0 j := by
  show (Rect.unit (s := S2x16x512) ![0, 0, 0] S1x16x512.size inb_S2x16x512_S1x16x512_0_0_0).emb (Shape.reshapeEquiv squeezes_S1x16x512_S16x512.numel_eq j) = _
  rw [reshape_unitWordIx]
  funext a; fin_cases a
  · rfl
  · exact Fin.ext (by show 0 + 1 * (j 0).val = (j 0).val; omega)
  · exact Fin.ext (by show 0 + 1 * (j 1).val = (j 1).val; omega)
theorem emb_wS1 (j : S16x512.Idx) : wS1.view.emb j = slotWordIx 1 j := by
  show (Rect.unit (s := S2x16x512) ![1, 0, 0] S1x16x512.size inb_S2x16x512_S1x16x512_1_0_0).emb (Shape.reshapeEquiv squeezes_S1x16x512_S16x512.numel_eq j) = _
  rw [reshape_unitWordIx]
  funext a; fin_cases a
  · rfl
  · exact Fin.ext (by show 0 + 1 * (j 0).val = (j 0).val; omega)
  · exact Fin.ext (by show 0 + 1 * (j 1).val = (j 1).val; omega)

/-- A memref written whole holds what was written. -/
theorem writes_emb {sp : Space} {s : Shape} {e : EltTy} (v : View sig .scVector sp s e) (f : v.ty.Contents (Elt F)) (u : s.Idx → Elt F e) (j : s.Idx) :
    v.read (Elt F) (v.writes (Elt F) f [⟨Rect.whole s, u⟩]) j = u j := by
  have h := View.read_writes_cons_emb v f (Rect.whole s) u [] j
  rwa [Rect.emb_whole_apply] at h

/-! The writes and reads of each slot and of each chunk, element by element. -/

theorem rows_slot0 (f : Vec F S2x64x512 .f32) (u : Vec F S64x512 .f32) (j : S64x512.Idx) :
    xS0.view.writes (Elt F) f [⟨Rect.whole S64x512, u⟩] (slotIx 0 j) = u j := by
  have h := writes_emb xS0.view f u j
  rw [View.read, emb_xS0, cast_eq] at h
  exact h
theorem words_slot0 (f : Vec F S2x16x512 .i32) (u : Vec F S16x512 .i32) (j : S16x512.Idx) :
    wS0.view.writes (Elt F) f [⟨Rect.whole S16x512, u⟩] (slotWordIx 0 j) = u j := by
  have h := writes_emb wS0.view f u j
  rw [View.read, emb_wS0, cast_eq] at h
  exact h
theorem read_slot0 (f : Vec F S2x64x512 .f32) (j : S64x512.Idx) : xS0.view.read (Elt F) f j = f (slotIx 0 j) := by
  rw [View.read, emb_xS0, cast_eq]
theorem rows_out0 (i : grid0.Coords) (f : Vec F S4096x512 .f32) (u : Vec F S64x512 .f32) (j : S64x512.Idx) :
    (oP0 i).view.writes (Elt F) f [⟨Rect.whole S64x512, u⟩] ((oP0 i).view.emb j) = u j := by
  have h := writes_emb (oP0 i).view f u j
  rw [View.read, cast_eq] at h
  exact h
theorem read_rows0 (i : grid0.Coords) (f : Vec F S65536x512 .f32) (j : S64x512.Idx) : (xP0 i).view.read (Elt F) f j = f ((xP0 i).view.emb j) := by
  rw [View.read, cast_eq]
theorem read_words0 (i : grid0.Coords) (f : Vec F S16384x512 .i32) (j : S16x512.Idx) : (wP0 i).view.read (Elt F) f j = f ((wP0 i).view.emb j) := by
  rw [View.read, cast_eq]

theorem rows_slot1 (f : Vec F S2x64x512 .f32) (u : Vec F S64x512 .f32) (j : S64x512.Idx) :
    xS1.view.writes (Elt F) f [⟨Rect.whole S64x512, u⟩] (slotIx 1 j) = u j := by
  have h := writes_emb xS1.view f u j
  rw [View.read, emb_xS1, cast_eq] at h
  exact h
theorem words_slot1 (f : Vec F S2x16x512 .i32) (u : Vec F S16x512 .i32) (j : S16x512.Idx) :
    wS1.view.writes (Elt F) f [⟨Rect.whole S16x512, u⟩] (slotWordIx 1 j) = u j := by
  have h := writes_emb wS1.view f u j
  rw [View.read, emb_wS1, cast_eq] at h
  exact h
theorem read_slot1 (f : Vec F S2x64x512 .f32) (j : S64x512.Idx) : xS1.view.read (Elt F) f j = f (slotIx 1 j) := by
  rw [View.read, emb_xS1, cast_eq]
theorem rows_out1 (i : grid0.Coords) (f : Vec F S4096x512 .f32) (u : Vec F S64x512 .f32) (j : S64x512.Idx) :
    (oP1 i).view.writes (Elt F) f [⟨Rect.whole S64x512, u⟩] ((oP1 i).view.emb j) = u j := by
  have h := writes_emb (oP1 i).view f u j
  rw [View.read, cast_eq] at h
  exact h
theorem read_rows1 (i : grid0.Coords) (f : Vec F S65536x512 .f32) (j : S64x512.Idx) : (xP1 i).view.read (Elt F) f j = f ((xP1 i).view.emb j) := by
  rw [View.read, cast_eq]
theorem read_words1 (i : grid0.Coords) (f : Vec F S16384x512 .i32) (j : S16x512.Idx) : (wP1 i).view.read (Elt F) f j = f ((wP1 i).view.emb j) := by
  rw [View.read, cast_eq]

/-- The row of words in which the mask of row `j` of a chunk lies. -/
def quarterIx (j : S64x512.Idx) : S16x512.Idx := fun
  | 0 => ⟨(j 0).val / 4, by have h : (j 0).val < 64 := (j 0).isLt; show (j 0).val / 4 < 16; omega⟩
  | 1 => j 1
  | ⟨_ + 2, h⟩ => absurd h (Nat.not_lt.2 (Nat.le_add_left _ _))

theorem wordIx_slotIx (s : Fin 2) (j : S64x512.Idx) : wordIx (slotIx s j) = slotWordIx s (quarterIx j) := by
  funext a; fin_cases a <;> rfl

theorem upto_slotIx (s : Fin 2) (w : Vec F S2x16x512 .i32) (g : Vec F S2x64x512 .f32) (j : S64x512.Idx) :
    upto s.val 2048 w g (slotIx s j) = sumBit ((j 0).val % 4) (w (slotWordIx s (quarterIx j))) (g (slotIx s j)) := by
  refine (upto_all w g (slotIx s j) rfl).trans ?_
  rw [sumAt, wordIx_slotIx]
  rfl

section Chunks

variable (i : grid0.Coords) (fx : Vec F S65536x512 .f32) (fw : Vec F S16384x512 .i32) (gx : Vec F S2x64x512 .f32) (gw : Vec F S2x16x512 .i32) (fo : Vec F S4096x512 .f32)

/-! Chunk 0: what the slot holds when its loop is over, where the rows lie, and so what is written out. -/

theorem sums0_apply (j : S64x512.Idx) :
    sums0 i fx fw gx gw (slotIx 0 j) = sumBit ((j 0).val % 4) ((wP0 i).view.read (Elt F) fw (quarterIx j)) ((xP0 i).view.read (Elt F) fx j) := by
  have h := upto_slotIx 0 (wordsIn wS0 (wP0 i) fw gw) (rowsIn xS0 (xP0 i) fx gx) j
  rw [rowsIn, wordsIn, rows_slot0, words_slot0] at h
  exact h

theorem rowIx_oP0 (j : S64x512.Idx) : rowIx ((oP0 i).view.emb j) = (xP0 i).view.emb j := by
  funext a; fin_cases a
  · refine Fin.ext ?_
    show 61440 + (k0_off69 i 0 + 1 * (j 0).val) = k0_off1 i 0 + 1 * (j 0).val
    rw [k0_off69_eq, k0_off1_eq]
    show 61440 + (256 * (i 1).val + 128 * (i 0).val + 1 * (j 0).val) = 256 * (i 1).val + 128 * (i 0).val + 61440 + 1 * (j 0).val
    omega
  · refine Fin.ext ?_
    show k0_off69 i 1 + 1 * (j 1).val = k0_off1 i 1 + 1 * (j 1).val
    rw [k0_off69_eq, k0_off1_eq]; rfl
theorem maskIx_oP0 (j : S64x512.Idx) : maskIx ((oP0 i).view.emb j) = (wP0 i).view.emb (quarterIx j) := by
  funext a; fin_cases a
  · refine Fin.ext ?_
    show 15360 + (k0_off69 i 0 + 1 * (j 0).val) / 4 = k0_off2 i 0 + 1 * ((j 0).val / 4)
    rw [k0_off69_eq, k0_off2_eq]
    show 15360 + (256 * (i 1).val + 128 * (i 0).val + 1 * (j 0).val) / 4 = 64 * (i 1).val + 32 * (i 0).val + 15360 + 1 * ((j 0).val / 4)
    omega
  · refine Fin.ext ?_
    show k0_off69 i 1 + 1 * (j 1).val = k0_off2 i 1 + 1 * (j 1).val
    rw [k0_off69_eq, k0_off2_eq]; rfl
theorem quarter_oP0 (j : S64x512.Idx) : (((oP0 i).view.emb j) 0).val % 4 = (j 0).val % 4 := by
  show (k0_off69 i 0 + 1 * (j 0).val) % 4 = _
  rw [k0_off69_eq]
  show (256 * (i 1).val + 128 * (i 0).val + 1 * (j 0).val) % 4 = _
  omega

theorem chunk0 {y : S4096x512.Idx} (hy : y ∈ (oP0 i).view.set) :
    (oP0 i).view.writes (Elt F) fo [⟨Rect.whole S64x512, xS0.view.read (Elt F) (sums0 i fx fw gx gw)⟩] y = tileOut fx fw y := by
  obtain ⟨j, -, rfl⟩ := Finset.mem_map.mp hy
  rw [rows_out0, read_slot0, sums0_apply, tileOut, quarter_oP0, rowIx_oP0, maskIx_oP0, read_rows0, read_words0]

/-! Chunk 1: the same over the other slot. -/

theorem sums1_apply (j : S64x512.Idx) :
    sums1 i fx fw gx gw (slotIx 1 j) = sumBit ((j 0).val % 4) ((wP1 i).view.read (Elt F) fw (quarterIx j)) ((xP1 i).view.read (Elt F) fx j) := by
  have h := upto_slotIx 1 (wordsIn wS1 (wP1 i) fw gw) (rowsIn xS1 (xP1 i) fx gx) j
  rw [rowsIn, wordsIn, rows_slot1, words_slot1] at h
  exact h

theorem rowIx_oP1 (j : S64x512.Idx) : rowIx ((oP1 i).view.emb j) = (xP1 i).view.emb j := by
  funext a; fin_cases a
  · refine Fin.ext ?_
    show 61440 + (k0_off134 i 0 + 1 * (j 0).val) = k0_off3 i 0 + 1 * (j 0).val
    rw [k0_off134_eq, k0_off3_eq]
    show 61440 + (256 * (i 1).val + 128 * (i 0).val + 64 + 1 * (j 0).val) = 256 * (i 1).val + 128 * (i 0).val + 61504 + 1 * (j 0).val
    omega
  · refine Fin.ext ?_
    show k0_off134 i 1 + 1 * (j 1).val = k0_off3 i 1 + 1 * (j 1).val
    rw [k0_off134_eq, k0_off3_eq]; rfl
theorem maskIx_oP1 (j : S64x512.Idx) : maskIx ((oP1 i).view.emb j) = (wP1 i).view.emb (quarterIx j) := by
  funext a; fin_cases a
  · refine Fin.ext ?_
    show 15360 + (k0_off134 i 0 + 1 * (j 0).val) / 4 = k0_off4 i 0 + 1 * ((j 0).val / 4)
    rw [k0_off134_eq, k0_off4_eq]
    show 15360 + (256 * (i 1).val + 128 * (i 0).val + 64 + 1 * (j 0).val) / 4 = 64 * (i 1).val + 32 * (i 0).val + 15376 + 1 * ((j 0).val / 4)
    omega
  · refine Fin.ext ?_
    show k0_off134 i 1 + 1 * (j 1).val = k0_off4 i 1 + 1 * (j 1).val
    rw [k0_off134_eq, k0_off4_eq]; rfl
theorem quarter_oP1 (j : S64x512.Idx) : (((oP1 i).view.emb j) 0).val % 4 = (j 0).val % 4 := by
  show (k0_off134 i 0 + 1 * (j 0).val) % 4 = _
  rw [k0_off134_eq]
  show (256 * (i 1).val + 128 * (i 0).val + 64 + 1 * (j 0).val) % 4 = _
  omega

theorem chunk1 {y : S4096x512.Idx} (hy : y ∈ (oP1 i).view.set) :
    (oP1 i).view.writes (Elt F) fo [⟨Rect.whole S64x512, xS1.view.read (Elt F) (sums1 i fx fw gx gw)⟩] y = tileOut fx fw y := by
  obtain ⟨j, -, rfl⟩ := Finset.mem_map.mp hy
  rw [rows_out1, read_slot1, sums1_apply, tileOut, quarter_oP1, rowIx_oP1, maskIx_oP1, read_rows1, read_words1]

end Chunks

end Cert.Proof.Tile

end
-- ==== Proof.Pieces.lean ====
/-
  How the three arrays are dealt to the tiles: tile `s` of SparseCore `c` is handed two pieces of each, and together the
  pieces are the rows of the array that the call treats.
-/
module

public import proofs.«01_k».proof.Proof.Chunk

@[expose] public section

noncomputable section

namespace Cert.Proof

open Cert.KernelIdeal Cert.KernelIdeal.Gen Cert.Proof.Tile
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

/-- The grid point of tile `s` of SparseCore `c`. -/
def coordsV (c : Fin 2) (s : Fin 16) : grid0.Coords :=
  fun | 0 => c | 1 => s | ⟨_ + 2, h⟩ => absurd h (Nat.not_lt.2 (Nat.le_add_left _ _))

/-- The elements of the tile's two pieces of `x`, of the words and of the result. -/
def xSet (c : Fin 2) (s : Fin 16) : Fin 2 → Finset S65536x512.Idx
  | 0 => (xP0 (coordsV c s)).view.set
  | 1 => (xP1 (coordsV c s)).view.set
def wSet (c : Fin 2) (s : Fin 16) : Fin 2 → Finset S16384x512.Idx
  | 0 => (wP0 (coordsV c s)).view.set
  | 1 => (wP1 (coordsV c s)).view.set
def oSet (c : Fin 2) (s : Fin 16) : Fin 2 → Finset S4096x512.Idx
  | 0 => (oP0 (coordsV c s)).view.set
  | 1 => (oP1 (coordsV c s)).view.set

theorem xSet_row {c : Fin 2} {s : Fin 16} {j : Fin 2} {y : S65536x512.Idx} (h : y ∈ xSet c s j) :
    256 * s.val + 128 * c.val + 64 * j.val + 61440 ≤ (y 0).val ∧ (y 0).val < 256 * s.val + 128 * c.val + 64 * j.val + 61440 + 64 := by
  match j with
  | 0 =>
    have h : y ∈ (xP0 (coordsV c s)).view.set := h
    rw [View.set_slice_whole, Rect.mem_set_unit] at h
    have h0 := h 0
    rw [k0_off1_eq] at h0
    exact h0
  | 1 =>
    have h : y ∈ (xP1 (coordsV c s)).view.set := h
    rw [View.set_slice_whole, Rect.mem_set_unit] at h
    have h0 := h 0
    rw [k0_off3_eq] at h0
    have h1 : 256 * s.val + 128 * c.val + 61504 ≤ (y 0).val ∧ (y 0).val < 256 * s.val + 128 * c.val + 61504 + 64 := h0
    show 256 * s.val + 128 * c.val + 64 * 1 + 61440 ≤ (y 0).val ∧ (y 0).val < 256 * s.val + 128 * c.val + 64 * 1 + 61440 + 64
    omega
theorem wSet_row {c : Fin 2} {s : Fin 16} {j : Fin 2} {y : S16384x512.Idx} (h : y ∈ wSet c s j) :
    64 * s.val + 32 * c.val + 16 * j.val + 15360 ≤ (y 0).val ∧ (y 0).val < 64 * s.val + 32 * c.val + 16 * j.val + 15360 + 16 := by
  match j with
  | 0 =>
    have h : y ∈ (wP0 (coordsV c s)).view.set := h
    rw [View.set_slice_whole, Rect.mem_set_unit] at h
    have h0 := h 0
    rw [k0_off2_eq] at h0
    exact h0
  | 1 =>
    have h : y ∈ (wP1 (coordsV c s)).view.set := h
    rw [View.set_slice_whole, Rect.mem_set_unit] at h
    have h0 := h 0
    rw [k0_off4_eq] at h0
    have h1 : 64 * s.val + 32 * c.val + 15376 ≤ (y 0).val ∧ (y 0).val < 64 * s.val + 32 * c.val + 15376 + 16 := h0
    show 64 * s.val + 32 * c.val + 16 * 1 + 15360 ≤ (y 0).val ∧ (y 0).val < 64 * s.val + 32 * c.val + 16 * 1 + 15360 + 16
    omega
theorem mem_oSet {c : Fin 2} {s : Fin 16} {j : Fin 2} {y : S4096x512.Idx} :
    y ∈ oSet c s j ↔ 256 * s.val + 128 * c.val + 64 * j.val ≤ (y 0).val ∧ (y 0).val < 256 * s.val + 128 * c.val + 64 * j.val + 64 := by
  have h2 : (y 1).val < 512 := (y 1).isLt
  match j with
  | 0 =>
    show y ∈ (oP0 (coordsV c s)).view.set ↔ _
    rw [View.set_slice_whole, Rect.mem_set_unit, k0_off69_eq]
    exact ⟨fun h => h 0, fun h a => by
      fin_cases a
      · exact h
      · exact ⟨Nat.zero_le _, h2.trans_eq (Nat.zero_add 512).symm⟩⟩
  | 1 =>
    show y ∈ (oP1 (coordsV c s)).view.set ↔ _
    rw [View.set_slice_whole, Rect.mem_set_unit, k0_off134_eq]
    exact ⟨fun h => h 0, fun h a => by
      fin_cases a
      · exact h
      · exact ⟨Nat.zero_le _, h2.trans_eq (Nat.zero_add 512).symm⟩⟩

/-- Pieces of different tiles, and the two pieces of one, have no element in common. -/
theorem xSet_disjoint : ∀ t ∈ (Finset.univ : Finset (Fin 2 × Fin 16 × Fin 2)), ∀ t' ∈ (Finset.univ : Finset (Fin 2 × Fin 16 × Fin 2)), t ≠ t' →
    Disjoint (xSet t.1 t.2.1 t.2.2) (xSet t'.1 t'.2.1 t'.2.2) := by
  rintro ⟨c, s, j⟩ - ⟨c', s', j'⟩ - hne
  refine Finset.disjoint_left.mpr fun y h h' => hne ?_
  have h1 := xSet_row (c := c) (s := s) (j := j) h
  have h2 := xSet_row (c := c') (s := s') (j := j') h'
  refine Prod.ext (Fin.ext ?_) (Prod.ext (Fin.ext ?_) (Fin.ext ?_)) <;> simp only <;> omega
theorem wSet_disjoint : ∀ t ∈ (Finset.univ : Finset (Fin 2 × Fin 16 × Fin 2)), ∀ t' ∈ (Finset.univ : Finset (Fin 2 × Fin 16 × Fin 2)), t ≠ t' →
    Disjoint (wSet t.1 t.2.1 t.2.2) (wSet t'.1 t'.2.1 t'.2.2) := by
  rintro ⟨c, s, j⟩ - ⟨c', s', j'⟩ - hne
  refine Finset.disjoint_left.mpr fun y h h' => hne ?_
  have h1 := wSet_row (c := c) (s := s) (j := j) h
  have h2 := wSet_row (c := c') (s := s') (j := j') h'
  refine Prod.ext (Fin.ext ?_) (Prod.ext (Fin.ext ?_) (Fin.ext ?_)) <;> simp only <;> omega
theorem oSet_disjoint : ∀ t ∈ (Finset.univ : Finset (Fin 2 × Fin 16 × Fin 2)), ∀ t' ∈ (Finset.univ : Finset (Fin 2 × Fin 16 × Fin 2)), t ≠ t' →
    Disjoint (oSet t.1 t.2.1 t.2.2) (oSet t'.1 t'.2.1 t'.2.2) := by
  rintro ⟨c, s, j⟩ - ⟨c', s', j'⟩ - hne
  refine Finset.disjoint_left.mpr fun y h h' => hne ?_
  have h1 := (mem_oSet (c := c) (s := s) (j := j)).mp h
  have h2 := (mem_oSet (c := c') (s := s') (j := j')).mp h'
  refine Prod.ext (Fin.ext ?_) (Prod.ext (Fin.ext ?_) (Fin.ext ?_)) <;> simp only <;> omega

/-- All the elements of an array that are dealt. -/
def dealt {ι : Type} [DecidableEq ι] (A : Fin 2 → Fin 16 → Fin 2 → Finset ι) : Finset ι :=
  (Finset.univ : Finset (Fin 2 × Fin 16 × Fin 2)).biUnion fun t => A t.1 t.2.1 t.2.2

/-- The whole result is dealt. -/
theorem dealt_oSet : dealt oSet = Finset.univ := by
  refine Finset.eq_univ_of_forall fun y => Finset.mem_biUnion.mpr ?_
  have h : (y 0).val < 4096 := (y 0).isLt
  refine ⟨(⟨(y 0).val / 128 % 2, Nat.mod_lt _ (by decide)⟩, ⟨(y 0).val / 256, by omega⟩, ⟨(y 0).val / 64 % 2, Nat.mod_lt _ (by decide)⟩), Finset.mem_univ _, mem_oSet.mpr ?_⟩
  simp only; omega

/-- A location's dealt elements are the tiles' pieces, two each. -/
theorem deal (ℓ : Loc nD τ sig) (A : Fin 2 → Fin 16 → Fin 2 → Finset (Idx ℓ))
    (hA : ∀ t ∈ (Finset.univ : Finset (Fin 2 × Fin 16 × Fin 2)), ∀ t' ∈ (Finset.univ : Finset (Fin 2 × Fin 16 × Fin 2)), t ≠ t' →
      Disjoint (A t.1 t.2.1 t.2.2) (A t'.1 t'.2.1 t'.2.2)) (f : Buf (Elt F) ℓ) :
    (ℓ ↦[dealt A]{fullShare} f : sProp 𝕄)
      = bigSep Finset.univ fun c => bigSep Finset.univ fun s => iprop((ℓ ↦[A c s 0]{fullShare} f) ∗ ℓ ↦[A c s 1]{fullShare} f) := by
  unfold dealt
  rw [pointsTo_biUnion _ _ hA, bigSep_univ_prod]
  refine bigSep_congr fun c _ => ?_
  rw [bigSep_univ_prod]
  exact bigSep_congr fun s _ => bigSep_fin_two _

end Cert.Proof

end
-- ==== Proof.Pay.lean ====
/-
  What the call carries: each tile is handed its pieces of `x`, of the words and of the result, and brings them back with
  the result's pieces at the sums.
-/
module

public import proofs.«01_k».proof.Proof.Pieces

@[expose] public section

noncomputable section

namespace Cert.Proof

open Cert.KernelIdeal Cert.KernelIdeal.Gen Cert.Proof.Tile
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

/-- The mask as bytes, one per element, -/
def maskBytes (b : Vec F S65536x512 .i1) : Vec F S65536x512 .i8 := extui 8 b natLt_1_8
/-- in groups of four rows, the four side by side, -/
def fourBytes (b : Vec F S65536x512 .i1) : Vec F S16384x512x4 .i8 :=
  transpose S16384x512x4 [0, 2, 1] (shapeCast S16384x4x512 (maskBytes b) shapeCasts_S65536x512_S16384x4x512) transposes_S16384x4x512_S16384x512x4_0_2_1
/-- and as words. -/
def words (b : Vec F S65536x512 .i1) : Vec F S16384x512 .i32 :=
  Host.bitcastConvertWiden S16384x512 32 (fourBytes b) splits_S16384x512_w32_S16384x512x4_w8

section Locs

variable (d : Dev nD)

/-- The arrays of @main, as locations of device `d`. -/
abbrev xLoc : Loc nD τ sig := (SparseCore.T d).loc main_arg0
abbrev bLoc : Loc nD τ sig := (SparseCore.T d).loc main_arg1
abbrev yLoc : Loc nD τ sig := (SparseCore.T d).loc main_v1
abbrev wLoc : Loc nD τ sig := (SparseCore.T d).loc main_v4
abbrev oLoc : Loc nD τ sig := (SparseCore.T d).loc main_v5
abbrev pLoc : Loc nD τ sig := (SparseCore.T d).loc main_v6
abbrev rLoc : Loc nD τ sig := (SparseCore.T d).loc main_v7

end Locs

/-- A tile's pieces, the result's at contents `o`. -/
def pieces (d : Dev nD) (c : Fin 2) (s : Fin 16) (x : Vec F S65536x512 .f32) (w : Vec F S16384x512 .i32) (o : Vec F S4096x512 .f32) : sProp 𝕄 :=
  iprop(((xLoc d ↦[xSet c s 0]{fullShare} x) ∗ xLoc d ↦[xSet c s 1]{fullShare} x)
    ∗ ((wLoc d ↦[wSet c s 0]{fullShare} w) ∗ wLoc d ↦[wSet c s 1]{fullShare} w)
    ∗ ((oLoc d ↦[oSet c s 0]{fullShare} o) ∗ oLoc d ↦[oSet c s 1]{fullShare} o))

variable [FloatOps F]

instance pieces_storable (d : Dev nD) (c : Fin 2) (s : Fin 16) (x : Vec F S65536x512 .f32) (w : Vec F S16384x512 .i32) (o : Vec F S4096x512 .f32) :
    BI.Storable (upEmb : UEmb _ 𝕄) (pieces d c s x w o) := by unfold pieces; infer_instance

variable (m : (ℓ : Loc nD τ sig) → Buf (Elt F) ℓ)

/-- A tile's pieces as it is handed them, and as it brings them back. -/
abbrev goP (d : Dev nD) (c : Fin 2) (s : Fin 16) : sProp 𝕄 := pieces d c s (m (xLoc d)) (words (F := F) (m (bLoc d))) (m (oLoc d))
abbrev tdP (d : Dev nD) (c : Fin 2) (s : Fin 16) : sProp 𝕄 := pieces d c s (m (xLoc d)) (words (F := F) (m (bLoc d))) (tileOut (m (xLoc d)) (words (F := F) (m (bLoc d))))

/-- The call's payloads: a SparseCore carries its sixteen tiles' pieces. -/
def P : (K (F := F)).Pay (nD := nD) (Val := Elt F) (Name := ℕ) (U := UU) where
  st := fun q d c => match q with | 0 => bigSep Finset.univ fun s : Fin ((K (F := F)).nSub 0) => goP m d (Fin.cast nCore_zero c) (Fin.cast nSub_zero s)
  dn := fun q d c => match q with | 0 => bigSep Finset.univ fun s : Fin ((K (F := F)).nSub 0) => tdP m d (Fin.cast nCore_zero c) (Fin.cast nSub_zero s)
  go := fun q d c s => match q with | 0 => goP m d (Fin.cast nCore_zero c) (Fin.cast nSub_zero s)
  td := fun q d c s => match q with | 0 => tdP m d (Fin.cast nCore_zero c) (Fin.cast nSub_zero s)
  x := fun _ _ => iprop(emp)

instance P_storable : (P (F := F) m).IsStorable where
  st q d c := match q with
    | 0 => (inferInstance : BI.Storable (upEmb : UEmb _ 𝕄) (bigSep Finset.univ fun s : Fin ((K (F := F)).nSub 0) => goP m d (Fin.cast nCore_zero c) (Fin.cast nSub_zero s)))
  dn q d c := match q with
    | 0 => (inferInstance : BI.Storable (upEmb : UEmb _ 𝕄) (bigSep Finset.univ fun s : Fin ((K (F := F)).nSub 0) => tdP m d (Fin.cast nCore_zero c) (Fin.cast nSub_zero s)))
  go q d c s := match q with
    | 0 => (inferInstance : BI.Storable (upEmb : UEmb _ 𝕄) (goP m d (Fin.cast nCore_zero c) (Fin.cast nSub_zero s)))
  td q d c s := match q with
    | 0 => (inferInstance : BI.Storable (upEmb : UEmb _ 𝕄) (tdP m d (Fin.cast nCore_zero c) (Fin.cast nSub_zero s)))

/-- A SparseCore's pieces are its tiles', out and back. -/
theorem vecSplit : (K (F := F)).VecSplit' (P m) 0 := by
  intro d c
  show (bigSep Finset.univ fun s : Fin ((K (F := F)).nSub 0) => goP m d (Fin.cast nCore_zero c) (Fin.cast nSub_zero s)) ⊢ |={Set.univ}=> iprop(
      (bigSep Finset.univ fun s : Fin ((K (F := F)).nSub 0) => goP m d (Fin.cast nCore_zero c) (Fin.cast nSub_zero s))
      ∗ ((bigSep Finset.univ fun s : Fin ((K (F := F)).nSub 0) => tdP m d (Fin.cast nCore_zero c) (Fin.cast nSub_zero s))
        -∗ bigSep Finset.univ fun s : Fin ((K (F := F)).nSub 0) => tdP m d (Fin.cast nCore_zero c) (Fin.cast nSub_zero s)))
  iintro H; imodintro
  isplitl [H]; · iexact H
  iintro H; iexact H

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- All tiles' pieces are the dealt elements of the three arrays. -/
theorem pieces_all (d : Dev nD) (x : Vec F S65536x512 .f32) (w : Vec F S16384x512 .i32) (o : Vec F S4096x512 .f32) :
    (bigSep Finset.univ fun c : Fin 2 => bigSep Finset.univ fun s : Fin 16 => pieces d c s x w o)
      = (iprop((xLoc d ↦[dealt xSet]{fullShare} x) ∗ (wLoc d ↦[dealt wSet]{fullShare} w) ∗ oLoc d ↦{fullShare} o) : sProp 𝕄) := by
  unfold pieces
  rw [show (Finset.univ : Finset (Idx (oLoc d))) = dealt oSet from dealt_oSet.symm,
    deal (xLoc d) xSet xSet_disjoint x, deal (wLoc d) wSet wSet_disjoint w, deal (oLoc d) oSet oSet_disjoint o]
  simp only [bigSep_sep']

theorem st0_eq (d : Dev nD) :
    (bigSep Finset.univ fun c : Fin ((K (F := F)).nCore 0) => (P m).st 0 d c)
      = (iprop((xLoc d ↦[dealt xSet]{fullShare} m (xLoc d)) ∗ (wLoc d ↦[dealt wSet]{fullShare} words (F := F) (m (bLoc d))) ∗ oLoc d ↦{fullShare} m (oLoc d)) : sProp 𝕄) := by
  rw [← pieces_all]
  show (bigSep Finset.univ fun c : Fin ((K (F := F)).nCore 0) => bigSep Finset.univ fun s : Fin ((K (F := F)).nSub 0) =>
    goP m d (Fin.cast nCore_zero c) (Fin.cast nSub_zero s)) = _
  rw [bigSep_cores (fun c => bigSep Finset.univ fun s : Fin ((K (F := F)).nSub 0) => goP m d c (Fin.cast nSub_zero s))]
  exact bigSep_congr fun c _ => bigSep_tasks (fun s => goP m d c s)
theorem dn0_eq (d : Dev nD) :
    (bigSep Finset.univ fun c : Fin ((K (F := F)).nCore 0) => (P m).dn 0 d c)
      = (iprop((xLoc d ↦[dealt xSet]{fullShare} m (xLoc d)) ∗ (wLoc d ↦[dealt wSet]{fullShare} words (F := F) (m (bLoc d)))
          ∗ oLoc d ↦{fullShare} tileOut (m (xLoc d)) (words (F := F) (m (bLoc d)))) : sProp 𝕄) := by
  rw [← pieces_all]
  show (bigSep Finset.univ fun c : Fin ((K (F := F)).nCore 0) => bigSep Finset.univ fun s : Fin ((K (F := F)).nSub 0) =>
    tdP m d (Fin.cast nCore_zero c) (Fin.cast nSub_zero s)) = _
  rw [bigSep_cores (fun c => bigSep Finset.univ fun s : Fin ((K (F := F)).nSub 0) => tdP m d c (Fin.cast nSub_zero s))]
  exact bigSep_congr fun c _ => bigSep_tasks (fun s => tdP m d c s)

end Cert.Proof

end
-- ==== Proof.Block.lean ====
/-
  The pipelined region's body: at a point it leaves the sum of its block of `x` and its block of the mask's bytes, and the
  region's proof data say so of every point.
-/
module

public import proofs.«01_k».proof.Proof.Pay
public import proofs.«01_k».proof.Proof.Gen.KernelIdeal.Points
public import proofs.«01_k».proof.Proof.Gen.KernelIdeal.Skeleton
public import Idealize.ShloMosaic.Lib.Pipeline.Frame
public import Idealize.ShloMosaic.Lib.Pipeline.Value
public import Idealize.ShloMosaic.Lib.Pipeline.RegionArrays
public import Idealize.ShloMosaic.Lib.VecWindow

@[expose] public section

noncomputable section

namespace Cert.Proof

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MM F

/-- The sum of floats and bytes, elementwise. -/
def byteSum {s : Shape} (x : Vec F s .f32) (b : Vec F s .i8) : Vec F s .f32 := addf x (sitofp .f32 (b : IVec s 8))

theorem byteSum_at {s s' : Shape} {x : Vec F s .f32} {b : Vec F s .i8} {x' : Vec F s' .f32} {b' : Vec F s' .i8} {j : s.Idx} {j' : s'.Idx}
    (hx : x j = x' j') (hb : b j = b' j') : byteSum x b j = byteSum x' b' j' := by
  show FloatOps.addf (x j) (FloatOps.sitofp .f32 (show BitVec 8 from b j)) = FloatOps.addf (x' j') (FloatOps.sitofp .f32 (show BitVec 8 from b' j'))
  rw [hx, hb]

theorem zeros2 : (![0, 0] : Fin 2 → Nat) = fun _ => 0 := by decide

/-- The printed block function is that sum: its reshape changes no shape. -/
theorem k1_pay1_eq (x : Vec F S4096x512 .f32) (b : Vec F S4096x512 .i8) : k1_pay1 x b = byteSum x b := by
  unfold k1_pay1 byteSum
  rw [shapeCast_self]

/-- The body reads its two blocks whole and leaves their sum in the third. -/
theorem block_run (d : Dev nD) (i : grid1.Coords) (M0 : Memref sig .tc .vmem S4096x512 .f32) (h0 : M0.IsWhole)
    (M1 : Memref sig .tc .vmem S4096x512 .i8) (h1 : M1.IsWhole) (M2 : Memref sig .tc .vmem S4096x512 .f32) (h2 : M2.IsWhole)
    (x : Vec F S4096x512 .f32) (b : Vec F S4096x512 .i8) (o : Vec F S4096x512 .f32) (E : Set ℕ) :
    (iprop(owns (d : Thread nD τ) M0 fullShare x ∗ owns (d : Thread nD τ) M1 fullShare b ∗ owns (d : Thread nD τ) M2 fullShare o) : sProp 𝕄)
      ⊢ wp frame (wpE (defs₀ (F := F)) 𝒱₀ (d : Thread nD τ) none) E (cc1__tc_body i M0 h0 M1 h1 M2 h2) fun _ =>
          iprop(owns (d : Thread nD τ) M0 fullShare x ∗ owns (d : Thread nD τ) M1 fullShare b ∗ owns (d : Thread nD τ) M2 fullShare (byteSum x b)) := by
  unfold owns
  iintro ⟨⟨%f0, %e0, H0⟩, ⟨%f1, %e1, H1⟩, ⟨%f2, %e2, H2⟩⟩
  rw [cc1__tc_body_eq_skeleton]
  unfold cc1__tc_body_skel
  sl_exec
  sl_step
  rw [View.readAt_eq_ld, View.readAt_eq_ld, View.ld_unit_zero zeros2, View.ld_unit_zero zeros2, e0, e1]
  isplitl [H0]; · iexists f0; isplitr; · ipureintro; exact e0
                  iexact H0
  isplitl [H1]; · iexists f1; isplitr; · ipureintro; exact e1
                  iexact H1
  iexists _
  isplitr
  on_goal 2 => iexact H2
  ipureintro
  rw [View.read_writes_full, k1_pay1_eq]

/-! ## The region's proof data -/

section Data

variable (x : Vec F S65536x512 .f32) (b : Vec F S65536x512 .i8) (o : Vec F S65536x512 .f32) (B : ℕ)

/-- A point's block of `x`, and of the bytes. -/
abbrev xBlk (t : Fin cfg1.N) : Vec F S4096x512 .f32 := ((cfg1.win 0).blk t).view.read (Elt F) x
abbrev bBlk (t : Fin cfg1.N) : Vec F S4096x512 .i8 := ((cfg1.win 1).blk t).view.read (Elt F) b

/-- The arrays at their contents before the region; after the body at a point, the blocks read and their sum; nothing
    owed, and what the core has waited on so far at levels up to `B`. -/
def dat (c : Dev nD) : Dat τ (Elt F) (HIx 1) ℕ UU ℕ cfg1 c where
  A w := match w with
    | ⟨0, _⟩ => x
    | ⟨1, _⟩ => b
    | ⟨2, _⟩ => o
  after w t := match w with
    | ⟨0, _⟩ => xBlk x t
    | ⟨1, _⟩ => bBlk b t
    | ⟨2, _⟩ => byteSum (xBlk x t) (bBlk b t)
  Φ _ := BI.emp
  q _ := fullShare
  owed _ := 0
  recorded _ := {p | (K (F := F)).lev ((c : Thread nD τ), p.1) p.2 ≤ B}

theorem before0 (c : Dev nD) (t : Fin cfg1.N) (v) : (dat x b o B c).before 0 t v = xBlk x t := by
  unfold Dat.before; rw [if_pos (fetch1_0 t)]; rfl
theorem before1 (c : Dev nD) (t : Fin cfg1.N) (v) : (dat x b o B c).before 1 t v = bBlk b t := by
  unfold Dat.before; rw [if_pos (fetch1_1 t)]; rfl

/-- The body meets its obligation at every point. -/
theorem body_obligation (c : Dev nD) : Pipeline.BodyObligation (dat x b o B c) (defs₀ (F := F)) 𝒱₀ none Set.univ := fun t => by
  rw [bigSep_W1, bigSep_W1]
  simp only [before0, before1]
  rw [show (dat x b o B c).Φ t.castSucc = BI.emp from rfl, show (dat x b o B c).Φ t.succ = BI.emp from rfl,
    show (dat x b o B c).owesAt none t.succ = (dat x b o B c).owesAt none t.castSucc from rfl]
  iintro ⟨-, HO, ⟨%v0, H0⟩, ⟨%v1, H1⟩, ⟨%v2, H2⟩⟩
  iapply (wp_wand_r frame (wpE (defs₀ (F := F)) 𝒱₀ (c : Thread nD τ) none) Set.univ)
  isplitl [H0 H1 H2]
  · iapply (block_run c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (xBlk x t) (bBlk b t) ((dat x b o B c).before 2 t v2) Set.univ)
    isplitl [H0]; · iexact H0
    isplitl [H1]; · iexact H1
    iexact H2
  · iintro %u ⟨H0, H1, H2⟩
    isplitr; · iempintro
    isplitl [HO]; · iexact HO
    isplitl [H0]; · iexact H0
    isplitl [H1]; · iexact H1
    iexact H2

/-- What the region leaves in its result: the sums on the rows it covers, elsewhere what was there. -/
def covered (y : S65536x512.Idx) : Prop := (y 0).val < 61440

instance : DecidablePred covered := fun y => inferInstanceAs (Decidable ((y 0).val < 61440))

def regionOut : Vec F S65536x512 .f32 := fun y => if covered y then byteSum x b y else o y

theorem index1 : ∀ t : Fin grid1.N, (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0) := by decide +kernel

/-- Row `r` of point `t`'s block is row `4096 t + r`. -/
def blockIx (t : Fin cfg1.N) (j : S4096x512.Idx) : S65536x512.Idx := fun
  | 0 => ⟨t.val * 4096 + (j 0).val, by have h : t.val < 15 := N_1 ▸ t.isLt; have h2 : (j 0).val < 4096 := (j 0).isLt; show _ < 65536; omega⟩
  | 1 => ⟨(j 1).val, (j 1).isLt⟩
  | ⟨_ + 2, h⟩ => absurd h (Nat.not_lt.2 (Nat.le_add_left _ _))

theorem emb0 (t : Fin cfg1.N) (j : S4096x512.Idx) : ((cfg1.win 0).blk t).view.emb j = blockIx t j := by
  obtain ⟨⟨e0, e1⟩, -, -⟩ := index1 t
  funext a; apply Fin.ext
  match a with
  | ⟨0, _⟩ => show win1_0.index t (0 : Fin 2) * 4096 + 1 * (j 0).val = t.val * 4096 + (j 0).val; omega
  | ⟨1, _⟩ => show win1_0.index t (1 : Fin 2) * 512 + 1 * (j 1).val = (j 1).val; omega
theorem emb1 (t : Fin cfg1.N) (j : S4096x512.Idx) : ((cfg1.win 1).blk t).view.emb j = blockIx t j := by
  obtain ⟨-, ⟨e0, e1⟩, -⟩ := index1 t
  funext a; apply Fin.ext
  match a with
  | ⟨0, _⟩ => show win1_1.index t (0 : Fin 2) * 4096 + 1 * (j 0).val = t.val * 4096 + (j 0).val; omega
  | ⟨1, _⟩ => show win1_1.index t (1 : Fin 2) * 512 + 1 * (j 1).val = (j 1).val; omega
theorem emb2 (t : Fin cfg1.N) (j : S4096x512.Idx) : ((cfg1.win 2).blk t).view.emb j = blockIx t j := by
  obtain ⟨-, -, e0, e1⟩ := index1 t
  funext a; apply Fin.ext
  match a with
  | ⟨0, _⟩ => show win1_2.index t (0 : Fin 2) * 4096 + 1 * (j 0).val = t.val * 4096 + (j 0).val; omega
  | ⟨1, _⟩ => show win1_2.index t (1 : Fin 2) * 512 + 1 * (j 1).val = (j 1).val; omega

/-- What a point writes back is its block of the sums of the arrays. -/
theorem flushed2 (c : Dev nD) (t : Fin cfg1.N) :
    (dat x b o B c).flushed 2 t = ((cfg1.win 2).blk t).view.read (Elt F) (byteSum x b) := by
  funext j
  show byteSum (xBlk x t) (bBlk b t) j = byteSum x b (((cfg1.win 2).blk t).view.emb j)
  rw [emb2]
  exact byteSum_at (congrArg x (emb0 t j)) (congrArg b (emb1 t j))

/-- Where an entry of point `t`'s rows lies in its block. -/
def localIx (t : Fin cfg1.N) (y : S65536x512.Idx) (h0 : t.val * 4096 ≤ (y 0).val) (h1 : (y 0).val < t.val * 4096 + 4096) : S4096x512.Idx := fun
  | 0 => ⟨(y 0).val - t.val * 4096, by show _ < 4096; omega⟩
  | 1 => ⟨(y 1).val, (y 1).isLt⟩
  | ⟨_ + 2, h⟩ => absurd h (Nat.not_lt.2 (Nat.le_add_left _ _))

/-- Point `t` covers the rows from `4096 t` on. -/
theorem mem_block (t : Fin cfg1.N) (y : S65536x512.Idx) :
    y ∈ ((cfg1.win 2).blk t).view.set ↔ t.val * 4096 ≤ (y 0).val ∧ (y 0).val < t.val * 4096 + 4096 := by
  constructor
  · intro h
    obtain ⟨j, -, hj⟩ := Finset.mem_map.mp h
    rw [← hj, emb2]
    have h2 : (j 0).val < 4096 := (j 0).isLt
    show t.val * 4096 ≤ t.val * 4096 + (j 0).val ∧ t.val * 4096 + (j 0).val < t.val * 4096 + 4096
    omega
  · rintro ⟨h0, h1⟩
    have h := ((cfg1.win 2).blk t).view.emb_mem_set (localIx t y h0 h1)
    have e : blockIx t (localIx t y h0 h1) = y := by
      funext a; apply Fin.ext
      match a with
      | ⟨0, _⟩ => show t.val * 4096 + ((y 0).val - t.val * 4096) = (y 0).val; omega
      | ⟨1, _⟩ => rfl
    rwa [emb2, e] at h

/-- The region's result after its points. -/
theorem final2 (c : Dev nD) : (dat x b o B c).arrAt 2 cfg1.N = regionOut x b o := by
  funext y
  refine ((dat x b o B c).arrAt_eq_piecewise 2 (byteSum x b) (fun t _ => flushed2 x b o B c t) y).trans ?_
  unfold regionOut
  refine if_congr ⟨?_, fun h => ?_⟩ rfl rfl
  · rintro ⟨t, -, h⟩
    have h := (mem_block t y).mp h
    have ht : t.val < 15 := N_1 ▸ t.isLt
    show (y 0).val < 61440
    omega
  · have h : (y 0).val < 61440 := h
    refine ⟨⟨(y 0).val / 4096, by show _ < grid1.N; rw [N_1]; omega⟩, flush1_2 _, (mem_block _ y).mpr ?_⟩
    show (y 0).val / 4096 * 4096 ≤ (y 0).val ∧ (y 0).val < (y 0).val / 4096 * 4096 + 4096
    omega

end Data

end Cert.Proof

end
-- ==== Proof.Host.lean ====
/-
  The host's operations: the five before the calls make the mask's bytes and words, the three after put the tiles' rows
  over the last 4096 rows of the pipelined call's result.
-/
module

public import proofs.«01_k».proof.Proof.Block

@[expose] public section

noncomputable section

namespace Cert.Proof

open Cert.KernelIdeal Cert.KernelIdeal.Gen Cert.Proof.Tile
open Idealize.ShloMosaic
open Idealize.ShloMosaic.StableHlo (held)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-- A reference of @main as a buffer of the device. -/
abbrev dr (b : Ref sig .tc) : DevRef τ sig := Proc.devRef .tc b

abbrev opExt : HloOp τ sig (Elt F) := StableHlo.unary main_arg1 main_v0 ((extui 8 · natLt_1_8) : (⟨S65536x512, .i1⟩ : BufTy).Contents (Elt F) → (⟨S65536x512, .i8⟩ : BufTy).Contents (Elt F))
abbrev opId : HloOp τ sig (Elt F) := StableHlo.unary main_v0 main_v1 (id : (⟨S65536x512, .i8⟩ : BufTy).Contents (Elt F) → (⟨S65536x512, .i8⟩ : BufTy).Contents (Elt F))
abbrev opFour : HloOp τ sig (Elt F) := StableHlo.reshape main_v1 main_v2 (rfl : (.i8 : EltTy) = .i8) shapeCasts_S65536x512_S16384x4x512
abbrev opTr : HloOp τ sig (Elt F) := StableHlo.unary main_v2 main_v3 ((transpose S16384x512x4 [0, 2, 1] · transposes_S16384x4x512_S16384x512x4_0_2_1) : (⟨S16384x4x512, .i8⟩ : BufTy).Contents (Elt F) → (⟨S16384x512x4, .i8⟩ : BufTy).Contents (Elt F))
abbrev opWord : HloOp τ sig (Elt F) := StableHlo.unary main_v3 main_v4 ((fun x => Host.bitcastConvertWiden S16384x512 32 x splits_S16384x512_w32_S16384x512x4_w8) : (⟨S16384x512x4, .i8⟩ : BufTy).Contents (Elt F) → (⟨S16384x512, .i32⟩ : BufTy).Contents (Elt F))
abbrev opRow : HloOp τ sig (Elt F) := StableHlo.nullary main_c (constantI S_ 32 61440#32)
abbrev opCol : HloOp τ sig (Elt F) := StableHlo.nullary main_c_0 (constantI S_ 32 0#32)
abbrev opPut : HloOp τ sig (Elt F) := StableHlo.binaryIndexed main_v6 main_v5 ![main_c, main_c_0] ⟨S_, .i32⟩ main_v7 ((fun x u i => Host.dynamicUpdateSlice x u (fun k => (i k (Shape.Idx.first h_S_)).toInt) updateFits_S65536x512_S4096x512) : (⟨S65536x512, .f32⟩ : BufTy).Contents (Elt F) → (⟨S4096x512, .f32⟩ : BufTy).Contents (Elt F) → (Fin 2 → (⟨S_, .i32⟩ : BufTy).Contents (Elt F)) → (⟨S65536x512, .f32⟩ : BufTy).Contents (Elt F))

/-- The arrays of @main. -/
abbrev arrays12 : Finset (DevRef τ sig) :=
  {dr main_arg0, dr main_arg1, dr main_v0, dr main_v1, dr main_v2, dr main_v3, dr main_v4, dr main_v5, dr main_v6, dr main_c, dr main_c_0, dr main_v7}

omit [FloatOps F] in
theorem held12 (d : Dev nD) (W : Valuation τ sig (Elt F)) :
    (held (SparseCore.T d) arrays12 W : sProp 𝕄)
      = iprop((xLoc d ↦{fullShare} W (dr main_arg0)) ∗ (bLoc d ↦{fullShare} W (dr main_arg1)) ∗ ((SparseCore.T d).loc main_v0 ↦{fullShare} W (dr main_v0))
          ∗ (yLoc d ↦{fullShare} W (dr main_v1)) ∗ ((SparseCore.T d).loc main_v2 ↦{fullShare} W (dr main_v2)) ∗ ((SparseCore.T d).loc main_v3 ↦{fullShare} W (dr main_v3))
          ∗ (wLoc d ↦{fullShare} W (dr main_v4)) ∗ (oLoc d ↦{fullShare} W (dr main_v5)) ∗ (pLoc d ↦{fullShare} W (dr main_v6))
          ∗ ((SparseCore.T d).loc main_c ↦{fullShare} W (dr main_c)) ∗ ((SparseCore.T d).loc main_c_0 ↦{fullShare} W (dr main_c_0)) ∗ rLoc d ↦{fullShare} W (dr main_v7)) := by
  unfold held arrays12
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
/-- The launch's unscoped buffers are those arrays. -/
theorem unscoped_held (d : Dev nD) (W : Valuation τ sig (Elt F)) :
    (unscopedBufs d (fun b => W (dr b)) : sProp 𝕄) = held (SparseCore.T d) arrays12 W := by
  rw [held12]
  unfold unscopedBufs
  rw [show (Finset.univ.filter fun b : Ref sig .tc => ¬ b.isScoped) = {main_arg0, main_arg1, main_v0, main_v1, main_v2, main_v3, main_v4, main_v5, main_v6, main_c, main_c_0, main_v7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem sub_Ext : (opExt (F := F)).bufs ⊆ arrays12 := show ({dr main_arg1, dr main_v0} : Finset (DevRef τ sig)) ⊆ arrays12 by decide
theorem sub_Id : (opId (F := F)).bufs ⊆ arrays12 := show ({dr main_v0, dr main_v1} : Finset (DevRef τ sig)) ⊆ arrays12 by decide
theorem sub_Four : (opFour (F := F)).bufs ⊆ arrays12 := show ({dr main_v1, dr main_v2} : Finset (DevRef τ sig)) ⊆ arrays12 by decide
theorem sub_Tr : (opTr (F := F)).bufs ⊆ arrays12 := show ({dr main_v2, dr main_v3} : Finset (DevRef τ sig)) ⊆ arrays12 by decide
theorem sub_Word : (opWord (F := F)).bufs ⊆ arrays12 := show ({dr main_v3, dr main_v4} : Finset (DevRef τ sig)) ⊆ arrays12 by decide
theorem sub_Row : (opRow (F := F)).bufs ⊆ arrays12 := show ({dr main_c} : Finset (DevRef τ sig)) ⊆ arrays12 by decide
theorem sub_Col : (opCol (F := F)).bufs ⊆ arrays12 := show ({dr main_c_0} : Finset (DevRef τ sig)) ⊆ arrays12 by decide
theorem sub_Put : (opPut (F := F)).bufs ⊆ arrays12 :=
  show (insert (dr main_v6) (insert (dr main_v5) (insert (dr main_v7)
    (Finset.univ.image fun k => dr ((![main_c, main_c_0] : Fin 2 → Ref sig .tc) k)))) : Finset (DevRef τ sig)) ⊆ arrays12 by decide

/-! ## Before the calls -/

/-- The arrays after the five operations. -/
def after5 (W : Valuation τ sig (Elt F)) : Valuation τ sig (Elt F) :=
  (opWord (F := F)).result ((opTr (F := F)).result ((opFour (F := F)).result ((opId (F := F)).result ((opExt (F := F)).result W))))

/-- An array none of the five writes keeps its contents. -/
theorem after5_ne (W : Valuation τ sig (Elt F)) (b : Ref sig .tc) (h0 : b ≠ main_v0) (h1 : b ≠ main_v1) (h2 : b ≠ main_v2) (h3 : b ≠ main_v3) (h4 : b ≠ main_v4) :
    after5 W (dr b) = W (dr b) := by
  unfold after5
  rw [StableHlo.unary_result_ne (h := h4), StableHlo.unary_result_ne (h := h3), StableHlo.reshape_result_ne (h := h2),
    StableHlo.unary_result_ne (h := h1), StableHlo.unary_result_ne (h := h0)]

/-- The bytes array holds the mask's bytes, -/
theorem after5_bytes (W : Valuation τ sig (Elt F)) : after5 W (dr main_v1) = maskBytes (F := F) (W (dr main_arg1)) := by
  unfold after5
  rw [StableHlo.unary_result_ne (h := (by decide : (main_v1 : Ref sig .tc) ≠ main_v4)), StableHlo.unary_result_ne (h := (by decide : (main_v1 : Ref sig .tc) ≠ main_v3)),
    StableHlo.reshape_result_ne (h := (by decide : (main_v1 : Ref sig .tc) ≠ main_v2)), StableHlo.unary_result', StableHlo.unary_result']
  rfl

/-- the words array its words. -/
theorem after5_words (W : Valuation τ sig (Elt F)) : after5 W (dr main_v4) = words (F := F) (W (dr main_arg1)) := by
  unfold after5
  rw [StableHlo.unary_result', StableHlo.unary_result', StableHlo.reshape_result', StableHlo.unary_result', StableHlo.unary_result']
  rfl

/-! ## After the calls -/

/-- The arrays after the last three operations. -/
def after3 (W : Valuation τ sig (Elt F)) : Valuation τ sig (Elt F) :=
  (opPut (F := F)).result ((opCol (F := F)).result ((opRow (F := F)).result W))

theorem after3_ne (W : Valuation τ sig (Elt F)) (b : Ref sig .tc) (h0 : b ≠ main_c) (h1 : b ≠ main_c_0) (h2 : b ≠ main_v7) :
    after3 W (dr b) = W (dr b) := by
  unfold after3
  rw [StableHlo.binaryIndexed_result_ne (h := h2), StableHlo.nullary_result_ne (h := h1), StableHlo.nullary_result_ne (h := h0)]

/-- `u` put over `x` from row 61440 on. -/
def putRows (x : Vec F S65536x512 .f32) (u : Vec F S4096x512 .f32) : Vec F S65536x512 .f32 :=
  Host.dynamicUpdateSlice x u ![61440, 0] updateFits_S65536x512_S4096x512

theorem after3_out (W : Valuation τ sig (Elt F)) : after3 W (dr main_v7) = putRows (F := F) (W (dr main_v6)) (W (dr main_v5)) := by
  unfold after3
  rw [StableHlo.binaryIndexed_result']
  rw [StableHlo.nullary_result_ne (h := (by decide : (main_v6 : Ref sig .tc) ≠ main_c_0)), StableHlo.nullary_result_ne (h := (by decide : (main_v6 : Ref sig .tc) ≠ main_c)),
    StableHlo.nullary_result_ne (h := (by decide : (main_v5 : Ref sig .tc) ≠ main_c_0)), StableHlo.nullary_result_ne (h := (by decide : (main_v5 : Ref sig .tc) ≠ main_c))]
  unfold putRows
  refine congrArg (fun s => Host.dynamicUpdateSlice _ _ s _) (funext fun k => ?_)
  fin_cases k
  · rfl
  · rfl

end Cert.Proof

end
-- ==== Proof.Region.lean ====
/-
  The pipelined call: from the whole arrays it takes `x` and the mask's bytes to the covered rows' sums, and it hands the
  thread's wait record back within the bound it was given it at.
-/
module

public import proofs.«01_k».proof.Proof.Block

@[expose] public section

noncomputable section

namespace Cert.Proof

open Cert.KernelIdeal Cert.KernelIdeal.Gen
open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MM F

/-- The staging rounds' algebra sits in the part of the resource the invariants may hold. -/
instance EB_landsIn : (EB : Emb UB 𝕄).LandsIn (upEmb : UEmb _ 𝕄) := by unfold EB; infer_instance

/-- No table is prefetched: the one admissible choice. -/
abbrev adm : (p : Fin 1) → (pcfgs (F := F) p).Adm := fun p => (cfgs p).toPCfg_adm

section Region

variable (x : Vec F S65536x512 .f32) (b : Vec F S65536x512 .i8) (o : Vec F S65536x512 .f32) (B : ℕ)

/-- The proof data of the program's one pipeline. -/
def pdats : (p : Fin 1) → (c : Dev nD) → Dat τ (Elt F) (HIx 1) ℕ UU ℕ (Pipeline.pin (pcfgs (F := F)) adm p) c
  | 0 => dat x b o B

/-- The three arrays whole, the third at `r`. -/
def held3 (c : Dev nD) (r : Vec F S65536x512 .f32) : sProp 𝕄 :=
  iprop((xLoc c ↦{fullShare} x) ∗ (yLoc c ↦{fullShare} b) ∗ pLoc c ↦{fullShare} r)

/-- The thread owes nothing, and has waited at levels up to `B` only. -/
def idle (c : Dev nD) : sProp 𝕄 :=
  iprop(∃ W, ⌜(K (F := F)).WBelow (T c) W B⌝ ∗ owes (T c) (0 : CellTallies nD τ sig (HIx 1)) W)

theorem arrays_start (c : Dev nD) : ((pdats x b o B 0 c).arrays ((pdats x b o B 0 c).arrAt · 0) : sProp 𝕄) = held3 x b c o := by
  refine (Pipeline.arrays_eq (Pipeline.pin (pcfgs (F := F)) adm) (pdats x b o B) 0 c arr_whole1 ((pdats x b o B 0 c).share_full fun _ => rfl) _).trans ?_
  exact bigSep_W1 _

theorem arrays_end (c : Dev nD) : ((pdats x b o B 0 c).arrays ((pdats x b o B 0 c).arrAt · (Pipeline.pin (pcfgs (F := F)) adm 0).N) : sProp 𝕄) = held3 x b c (regionOut x b o) := by
  refine (Pipeline.arrays_eq (Pipeline.pin (pcfgs (F := F)) adm) (pdats x b o B) 0 c arr_whole1 ((pdats x b o B 0 c).share_full fun _ => rfl) _).trans ?_
  refine (bigSep_W1 _).trans ?_
  rw [show (pdats x b o B 0 c).arrAt (0 : Fin 3) (Pipeline.pin (pcfgs (F := F)) adm 0).N = x from (dat x b o B c).arrAt_in 0 rfl _,
    show (pdats x b o B 0 c).arrAt (1 : Fin 3) (Pipeline.pin (pcfgs (F := F)) adm 0).N = b from (dat x b o B c).arrAt_in 1 rfl _,
    show (pdats x b o B 0 c).arrAt (2 : Fin 3) (Pipeline.pin (pcfgs (F := F)) adm 0).N = regionOut x b o from final2 x b o B c]
  rfl

set_option backward.isDefEq.respectTransparency.types false in
/-- The call as a region: entered with the three arrays and an idle thread, left with the sums on the covered rows. -/
def reg : Pipeline.RegionSeg (pcfgs (F := F)) adm (pdats x b o B) none defs₀ 𝒱₀ (K (F := F)).L (K (F := F)).lev 0 where
  win := (launch1).win.to₀
  block_pos := launch1.block_pos
  stage_whole := launch1.stage_whole
  K := PEmpty
  osem k := k.elim
  ho := Pipeline.OwnSemFacts.none _
  hbody c := (body_obligation x b o B c).loose
  hwaits := Pipeline.hwaits_of_owed_zero _ _ _ _ (K (F := F)).L (K (F := F)).lev 0 fun _ _ => rfl
  pre c := iprop(held3 x b c o ∗ idle B c)
  post c := iprop(held3 x b c (regionOut x b o) ∗ idle B c)
  X _ := BI.emp
  Y _ := BI.emp
  Z _ := BI.emp
  hentry c := by
    rw [Pipeline.ownSems0_none, Pipeline.prefHeld_of_none _ rfl, arrays_start]
    unfold idle
    iintro ⟨⟨Ha, ⟨%W, %hW, HO⟩⟩, -, -⟩
    imodintro
    isplitl [Ha]; · iexact Ha
    isplitr; · iempintro
    isplitl [HO]
    · unfold Pipeline.Dat.owesAt Pipeline.owesWithin
      iexists W
      isplitr; · ipureintro; exact fun p hp => Or.inl (hW p hp)
      iexact HO
    isplitr <;> iempintro
  hin c := by
    rw [show (pdats x b o B 0 c).Φ 0 = BI.emp from rfl, scopedRest1_eq]
    iintro ⟨-, -, -⟩; iempintro
  hout c := by
    rw [Pipeline.ownSems0_none, show (pdats x b o B 0 c).Φ (Fin.last _) = BI.emp from rfl, scopedRest1_eq]
    iintro -
    isplitr; · iempintro
    isplitr <;> iempintro
  hexit c := by
    rw [arrays_end]
    unfold idle Pipeline.Dat.owesAt Pipeline.owesWithin
    iintro ⟨Ha, ⟨%W, %hW, HO⟩, -, -⟩
    imodintro
    isplitl [Ha]; · iexact Ha
    iexists W
    isplitr
    · ipureintro
      intro p hp
      rcases hW hp with h | ⟨w, s, rfl⟩
      · exact h
      · exact Nat.zero_le _
    iexact HO

/-- The thread's staging cells, as the launch leaves them to it. -/
def staging (d : Dev nD) : sProp 𝕄 :=
  iprop((Pipeline.cellsGhost (Pipeline.pin (pcfgs (F := F)) adm) EB 0 d : sProp 𝕄) ∗ Pipeline.toksInit (Pipeline.pin (pcfgs (F := F)) adm) EB 0 d)

/-- The call, in the pipeline's own body table. -/
theorem region_entry [∀ e, Nonempty (Elt F e)] (d : Dev nD) (Φ : PUnit → sProp 𝕄) :
    (iprop((iprop(boundary (T d) ∗ held3 x b d (regionOut x b o) ∗ idle B d) -∗ Φ ⟨⟩)
        ∗ boundary (T d) ∗ (held3 x b d o ∗ idle B d) ∗ levAts (K (F := F)).L (K (F := F)).lev ∗ staging d) : sProp 𝕄)
      ⊢ wp frame (wpE (D (F := F)) 𝒱 (T d) none) Set.univ (.op (.customCall (Pipeline.entry 0) ()) fun _ => .ret ⟨⟩) Φ := by
  iintro ⟨Hk, Hb, Hp, Hl, Hg⟩
  iapply (Pipeline.RegionSeg.wp (pcfgs (F := F)) adm (pdats x b o B) none cellOf_inj EB defs₀ 𝒱₀ (K (F := F)).L (K (F := F)).lev (reg x b o B) d none
    (fun u hu => nomatch hu) (fun _ => .ret ⟨⟩) Φ)
  isplitl [Hk]
  · iintro ⟨Hb, H⟩
    ihave H := (Entails.of_eq (show (reg x b o B).post d = iprop(held3 x b d (regionOut x b o) ∗ idle B d) from rfl)) $$ H
    icases H with ⟨H, Hi⟩
    iapply (Idealize.SL.Sem.le_wp_ret _ _)
    iapply Hk
    isplitl [Hb]; · iexact Hb
    isplitl [H]; · iexact H
    iexact Hi
  isplitl [Hb]; · iexact Hb
  isplitl [Hp]; · iapply (Entails.of_eq (show iprop(held3 x b d o ∗ idle B d) = (reg x b o B).pre d from rfl)); iexact Hp
  isplitl [Hl]; · iexact Hl
  unfold staging
  iexact Hg

theorem lift_entry : (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) fun _ => (.ret ⟨⟩ : Prog (TpuEff nD τ sig (Elt F) (ΛP (F := F)) .tc) PUnit)) := rfl

/-- The call in the program: it takes the three arrays to the sums on the covered rows, and leaves the thread idle within
    the bound it was idle at. -/
theorem region_call [∀ e, Nonempty (Elt F e)] (d : Dev nD) (Φ : PUnit → sProp 𝕄) :
    (iprop((iprop(boundary (T d) ∗ held3 x b d (regionOut x b o) ∗ idle B d) -∗ Φ ⟨⟩)
        ∗ boundary (T d) ∗ (held3 x b d o ∗ idle B d) ∗ levAts (K (F := F)).L (K (F := F)).lev ∗ staging d) : sProp 𝕄)
      ⊢ wp frame (wpE ((K (F := F)).defs (D (F := F))) 𝒱 (T d) none) Set.univ
          (Prog.lift (.customCall (SparseCore.inner (Pipeline.entry 0)) ())) Φ := by
  rw [lift_entry]
  iintro H
  iapply ((K (F := F)).wp_liftProg (D (F := F)) 𝒱 (T d) Set.univ none (.op (.customCall (Pipeline.entry 0) ()) fun _ => .ret ⟨⟩) Φ)
  iapply (region_entry x b o B d Φ)
  iexact H

end Region

end Cert.Proof

end
-- ==== Proof.Task.lean ====
/-
  A tile's task: its scratch buffers split into slots, the body's run, and its pieces of the result at the sums.
-/
module

public import proofs.«01_k».proof.Proof.Pay

@[expose] public section

noncomputable section

namespace Cert.Proof

open Cert.KernelIdeal Cert.KernelIdeal.Gen Cert.Proof.Tile
open Idealize.ShloMosaic
open Idealize.ShloMosaic.SparseCore (S V T)
open Idealize.ShloMosaic.SparseCore.Cfg (HIx ownCells ownSems0 ownBufs ownRefs mem_ownCells)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F
local notation "xV" => (Memref.whole Cert.KernelIdeal.main_arg0_scv : Memref Cert.KernelIdeal.sig Kind.scVector Space.hbm Cert.KernelIdeal.S65536x512 EltTy.f32)
local notation "wV" => (Memref.whole Cert.KernelIdeal.main_v4_scv : Memref Cert.KernelIdeal.sig Kind.scVector Space.hbm Cert.KernelIdeal.S16384x512 EltTy.i32)
local notation "oV" => (Memref.whole Cert.KernelIdeal.main_v5_scv : Memref Cert.KernelIdeal.sig Kind.scVector Space.hbm Cert.KernelIdeal.S4096x512 EltTy.f32)
local notation "xb" => (Memref.whole Cert.KernelIdeal.cc0_scratch0 : Memref Cert.KernelIdeal.sig Kind.scVector Space.vmem Cert.KernelIdeal.S2x64x512 EltTy.f32)
local notation "mb" => (Memref.whole Cert.KernelIdeal.cc0_scratch1 : Memref Cert.KernelIdeal.sig Kind.scVector Space.vmem Cert.KernelIdeal.S2x16x512 EltTy.i32)

section Own

variable (i : grid0.Coords) (d : Dev nD)

/-- The tile's six transfer semaphores. -/
def sems6 : Finset (SemLoc sig) := {sX0, sX1, sW0, sW1, sO0, sO1}

theorem sems6_scoped : ∀ l ∈ sems6, l.isScoped .scVector = true := by decide

/-- As cells of the tile. -/
def cells6 : Finset (GSem nD τ sig) := sems6.map ⟨fun l => (thr i d, l), fun _ _ h => congrArg Prod.snd h⟩

theorem cells6_sub : cells6 i d ⊆ ownCells (thr i d) := by
  intro g hg
  obtain ⟨l, hl, rfl⟩ := Finset.mem_map.mp hg
  exact mem_ownCells.mpr ⟨rfl, sems6_scoped l hl⟩

/-- The tile's own semaphores are the six and the rest. -/
theorem ownSems0_eq :
    (ownSems0 (thr i d) : sProp 𝕄)
      = iprop((semVal (thr i d, sX0) 0 ∗ semVal (thr i d, sX1) 0 ∗ semVal (thr i d, sW0) 0 ∗ semVal (thr i d, sW1) 0 ∗ semVal (thr i d, sO0) 0 ∗ semVal (thr i d, sO1) 0)
          ∗ bigSep (ownCells (thr i d) \ cells6 i d) fun g => semVal g 0) := by
  unfold SparseCore.Cfg.ownSems0
  conv_lhs => rw [← Finset.union_sdiff_of_subset (cells6_sub i d)]
  rw [bigSep_union Finset.disjoint_sdiff]
  congr 1
  unfold cells6
  rw [bigSep_map]
  unfold sems6
  rw [SparseCore.bigSep_insert' (by decide), SparseCore.bigSep_insert' (by decide), SparseCore.bigSep_insert' (by decide),
    SparseCore.bigSep_insert' (by decide), SparseCore.bigSep_insert' (by decide), bigSep_singleton]
  rfl

abbrev bufX : DevRef τ sig := (Proc.scVector ((i 0).castLE hcore0) ((i 1).castLE hsub0)).devRef cc0_scratch0
abbrev bufM : DevRef τ sig := (Proc.scVector ((i 0).castLE hcore0) ((i 1).castLE hsub0)).devRef cc0_scratch1

/-- The tile's own buffers are the two scratch buffers, each at some contents, and the rest. -/
theorem ownBufs_eq :
    (ownBufs (thr i d) : sProp 𝕄)
      = iprop((∃ f, (thr i d).loc cc0_scratch0 ↦{fullShare} f) ∗ (∃ f, (thr i d).loc cc0_scratch1 ↦{fullShare} f)
          ∗ bigSep (((ownRefs (τ := τ) (.scVector ((i 0).castLE hcore0) ((i 1).castLE hsub0))).erase (bufX i)).erase (bufM i))
              fun b => iprop(∃ f, ((d, b) : Loc nD τ sig) ↦{fullShare} f)) := by
  refine (SparseCore.bigSep_erase' (s := ownRefs (τ := τ) (.scVector ((i 0).castLE hcore0) ((i 1).castLE hsub0))) (i := bufX i)
    (SparseCore.Cfg.mem_ownRefs_of_owner (b := bufX i) rfl)).trans ?_
  refine congrArg _ (SparseCore.bigSep_erase' (s := (ownRefs (τ := τ) (.scVector ((i 0).castLE hcore0) ((i 1).castLE hsub0))).erase (bufX i)) (i := bufM i) ?_)
  exact Finset.mem_erase.mpr ⟨fun e => absurd (Proc.devRef_injective _ e) (show (cc0_scratch1 : Ref sig .scVector) ≠ cc0_scratch0 by decide),
    SparseCore.Cfg.mem_ownRefs_of_owner (b := bufM i) rfl⟩

theorem xSlots_union : (xS0.view.set ∪ xS1.view.set : Finset S2x64x512.Idx) = Finset.univ := by
  refine Finset.eq_univ_of_forall fun y => ?_
  have h : (y 0).val < 2 := (y 0).isLt
  rcases Nat.lt_or_ge (y 0).val 1 with h0 | h1
  · exact Finset.mem_union_left _ (slotX0 y (by omega))
  · exact Finset.mem_union_right _ (slotX1 y (by omega))
theorem wSlots_union : (wS0.view.set ∪ wS1.view.set : Finset S2x16x512.Idx) = Finset.univ := by
  refine Finset.eq_univ_of_forall fun y => ?_
  have h : (y 0).val < 2 := (y 0).isLt
  rcases Nat.lt_or_ge (y 0).val 1 with h0 | h1
  · exact Finset.mem_union_left _ (slotW0 y (by omega))
  · exact Finset.mem_union_right _ (slotW1 y (by omega))
theorem xSlots_disjoint : Disjoint (xS0.view.set : Finset S2x64x512.Idx) xS1.view.set := by
  refine Finset.disjoint_left.mpr fun y h0 h1 => ?_
  rw [View.set_reshape, View.set_slice_whole, Rect.mem_set_unit] at h0 h1
  have a0 : (y 0).val < 0 + 1 := (h0 0).2
  have a1 : 1 ≤ (y 0).val := (h1 0).1
  omega
theorem wSlots_disjoint : Disjoint (wS0.view.set : Finset S2x16x512.Idx) wS1.view.set := by
  refine Finset.disjoint_left.mpr fun y h0 h1 => ?_
  rw [View.set_reshape, View.set_slice_whole, Rect.mem_set_unit] at h0 h1
  have a0 : (y 0).val < 0 + 1 := (h0 0).2
  have a1 : 1 ≤ (y 0).val := (h1 0).1
  omega

/-- A scratch buffer is its two slots, -/
theorem xSlots_split (f : Vec F S2x64x512 .f32) :
    ((thr i d).loc cc0_scratch0 ↦{fullShare} f : sProp 𝕄) ⊢ iprop(own i d xS0 f ∗ own i d xS1 f) := by
  iintro H
  ihave H := (pointsTo_union (ℓ := (thr i d).loc cc0_scratch0) (q := fullShare) (f := f) xSlots_disjoint).1 $$ [H]
  · rw [xSlots_union]; iexact H
  icases H with ⟨H0, H1⟩
  isplitl [H0]; · iexact H0
  iexact H1
theorem wSlots_split (f : Vec F S2x16x512 .i32) :
    ((thr i d).loc cc0_scratch1 ↦{fullShare} f : sProp 𝕄) ⊢ iprop(own i d wS0 f ∗ own i d wS1 f) := by
  iintro H
  ihave H := (pointsTo_union (ℓ := (thr i d).loc cc0_scratch1) (q := fullShare) (f := f) wSlots_disjoint).1 $$ [H]
  · rw [wSlots_union]; iexact H
  icases H with ⟨H0, H1⟩
  isplitl [H0]; · iexact H0
  iexact H1
/-- and the slots, each at contents of its own, are the buffer at some contents. -/
theorem xSlots_join (f g : Vec F S2x64x512 .f32) :
    iprop(own i d xS0 f ∗ own i d xS1 g) ⊢ (iprop(∃ h, (thr i d).loc cc0_scratch0 ↦{fullShare} h) : sProp 𝕄) := by
  iintro H
  ihave H := (pointsTo_join (ℓ := (thr i d).loc cc0_scratch0) (f := f) (g := g) xSlots_disjoint) $$ H
  rw [xSlots_union]
  iexists _; iexact H
theorem wSlots_join (f g : Vec F S2x16x512 .i32) :
    iprop(own i d wS0 f ∗ own i d wS1 g) ⊢ (iprop(∃ h, (thr i d).loc cc0_scratch1 ↦{fullShare} h) : sProp 𝕄) := by
  iintro H
  ihave H := (pointsTo_join (ℓ := (thr i d).loc cc0_scratch1) (f := f) (g := g) wSlots_disjoint) $$ H
  rw [wSlots_union]
  iexists _; iexact H

end Own

variable [FloatOps F]

/-- The pieces in the spelling of the body's run. -/
theorem pieces_own (d : Dev nD) (c : Fin 2) (s : Fin 16) (x : Vec F S65536x512 .f32) (w : Vec F S16384x512 .i32) (o : Vec F S4096x512 .f32) :
    (pieces d c s x w o : sProp 𝕄)
      = iprop((own (coordsV c s) d (xP0 (coordsV c s)) x ∗ own (coordsV c s) d (xP1 (coordsV c s)) x)
        ∗ (own (coordsV c s) d (wP0 (coordsV c s)) w ∗ own (coordsV c s) d (wP1 (coordsV c s)) w)
        ∗ (own (coordsV c s) d (oP0 (coordsV c s)) o ∗ own (coordsV c s) d (oP1 (coordsV c s)) o)) := rfl

/-- A piece of the result after its copy holds the sums. -/
theorem out0 (i : grid0.Coords) (d : Dev nD) (x : Vec F S65536x512 .f32) (w : Vec F S16384x512 .i32) (gx : Vec F S2x64x512 .f32)
    (gw : Vec F S2x16x512 .i32) (o : Vec F S4096x512 .f32) :
    (own i d (oP0 i) ((oP0 i).view.writes (Elt F) o [⟨Rect.whole S64x512, xS0.view.read (Elt F) (sums0 i x w gx gw)⟩]) : sProp 𝕄)
      = own i d (oP0 i) (tileOut x w) :=
  pointsTo_congr fun _ hy => chunk0 i x w gx gw o hy
theorem out1 (i : grid0.Coords) (d : Dev nD) (x : Vec F S65536x512 .f32) (w : Vec F S16384x512 .i32) (gx : Vec F S2x64x512 .f32)
    (gw : Vec F S2x16x512 .i32) (o : Vec F S4096x512 .f32) :
    (own i d (oP1 i) ((oP1 i).view.writes (Elt F) o [⟨Rect.whole S64x512, xS1.view.read (Elt F) (sums1 i x w gx gw)⟩]) : sProp 𝕄)
      = own i d (oP1 i) (tileOut x w) :=
  pointsTo_congr fun _ hy => chunk1 i x w gx gw o hy

/-- The task of tile `s` of SparseCore `c`: the pieces come back, the result's at the sums. -/
theorem tile_body (d : Dev nD) (c : Fin 2) (s : Fin 16) (x : Vec F S65536x512 .f32) (w : Vec F S16384x512 .i32) (o : Vec F S4096x512 .f32)
    (hF : (K (F := F)).Facts) (O : CellTallies nD τ sig (HIx 1)) (W : Waits sig (HIx 1)) (hO : ∀ g, O g none = 0) :
    iprop(levAts (K (F := F)).L (K (F := F)).lev ∗ emp ∗ pieces d c s x w o
        ∗ scopedBufs (thr (coordsV c s) d) ∗ scopedSems0 (thr (coordsV c s) d) ∗ owes (thr (coordsV c s) d) O W)
      ⊢ wp frame (wpE (defs₀ (F := F)) 𝒱₀ (thr (coordsV c s) d) none) Set.univ
          (cc0_k (coordsV c s) xV (Memref.isWhole_whole _) wV (Memref.isWhole_whole _) oV (Memref.isWhole_whole _)
            xb (Memref.isWhole_whole _) mb (Memref.isWhole_whole _) cc0_scratch2 cc0_scratch3 cc0_scratch4)
          fun _ => iprop(pieces d c s x w (tileOut x w)
            ∗ scopedBufs (thr (coordsV c s) d) ∗ scopedSems0 (thr (coordsV c s) d)
            ∗ ∃ W', ⌜∀ p ∈ W', p ∈ W ∨ p.2 = none ∨ p.2 = some (0 : Fin 1)⌝ ∗ owes (thr (coordsV c s) d) O W') := by
  rw [(K (F := F)).scopedBufs_V hF d _ _, SparseCore.Cfg.scopedSems0_V (Val := Elt F) d _ _, ownSems0_eq, ownBufs_eq, pieces_own, pieces_own]
  iintro ⟨#Hlv, -, ⟨⟨Hx0, Hx1⟩, ⟨Hw0, Hw1⟩, ⟨Ho0, Ho1⟩⟩, ⟨⟨%gx, Hb⟩, ⟨%gw, Hm⟩, Hbufs⟩, ⟨⟨H0, H1, H2, H3, H4, H5⟩, Hsems⟩, HO⟩
  ihave Hb := (xSlots_split (coordsV c s) d gx) $$ Hb
  icases Hb with ⟨Hb0, Hb1⟩
  ihave Hm := (wSlots_split (coordsV c s) d gw) $$ Hm
  icases Hm with ⟨Hm0, Hm1⟩
  iapply (wp_wand_r frame (wpE (defs₀ (F := F)) 𝒱₀ (thr (coordsV c s) d) none) Set.univ)
  isplitl [Hx0 Hx1 Hw0 Hw1 Ho0 Ho1 Hb0 Hb1 Hm0 Hm1 H0 H1 H2 H3 H4 H5 HO]
  · iapply (body_run (coordsV c s) d x w o gx gw O W hO)
    iframe
    iexact Hlv
  · iintro %u ⟨Kx0, Kx1, Kw0, Kw1, Ko0, Ko1, Kb0, Kb1, Km0, Km1, K0, K1, K2, K3, K4, K5, %W', %hW', KO⟩
    ihave Ko0 := (Entails.of_eq (out0 (coordsV c s) d x w gx gw o)) $$ Ko0
    ihave Ko1 := (Entails.of_eq (out1 (coordsV c s) d x w gx gw o)) $$ Ko1
    ihave Hb := (xSlots_join (coordsV c s) d _ _) $$ [Kb0 Kb1]
    · isplitl [Kb0]; · iexact Kb0
      iexact Kb1
    ihave Hm := (wSlots_join (coordsV c s) d _ _) $$ [Km0 Km1]
    · isplitl [Km0]; · iexact Km0
      iexact Km1
    iframe
    iexists W'
    isplitr
    · ipureintro
      intro p hp
      rcases hW' p hp with h | h
      · exact .inl h
      · exact .inr (.inl h)
    · iexact KO

variable (m : (ℓ : Loc nD τ sig) → Buf (Elt F) ℓ)

theorem defs₀_vector (c : Fin τ.nSC) (s : Fin τ.nSub) :
    defs₀ (F := F) (.scVector c s) 0 ()
      = SparseCore.onTile hcore0 hsub0 (fun c s => cc0_k (coordsV c s) xV (Memref.isWhole_whole _) wV (Memref.isWhole_whole _)
          oV (Memref.isWhole_whole _) xb (Memref.isWhole_whole _) mb (Memref.isWhole_whole _) cc0_scratch2 cc0_scratch3 cc0_scratch4) ⟨⟩ c s := rfl

/-- Each tile meets its obligation of the launch. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d ⟨_, hci.1⟩ ⟨_, hci.2⟩ _ _ _ hF O W hO

end Cert.Proof

end
-- ==== Proof.Run.lean ====
/-
  The program's run: @main's operations and its two calls one after the other, from the launch's arrays to the result, and
  the whole mesh's run from the tiles' and @main's.
-/
module

public import proofs.«01_k».proof.Proof.Host
public import proofs.«01_k».proof.Proof.Region
public import proofs.«01_k».proof.Proof.Task
public import Idealize.ShloMosaic.Lib.Pipeline.Sound

@[expose] public section

noncomputable section

namespace Cert.Proof

open Cert.KernelIdeal Cert.KernelIdeal.Gen Cert.Proof.Tile
open Idealize.ShloMosaic
open Idealize.ShloMosaic.StableHlo (held wp_hlo_within)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (m : (ℓ : Loc nD τ sig) → Buf (Elt F) ℓ) (ρ : Dev nD → PrngReg)

/-! ## The launch's element -/

/-- The handshakes' rounds and the staging cells' rounds. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

omit [FloatOps F] in
theorem own_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- The launch's element gives the handshakes theirs and every device its staging cells. -/
theorem hu₀ : (ownU (u₀ (F := F)) : sProp 𝕄)
    ⊢ |={Set.univ}=> iprop(BI.own (EH (initOf (K (F := F)).hsCells (K (F := F)).hsToks)) ∗ (bigSep Finset.univ fun d : Dev nD => staging d)
        ∗ bigSep Finset.univ fun thr : Thread nD τ => bigSep Finset.univ fun q : Fin 1 => (P m).x q thr) := by
  unfold u₀
  iintro Hu
  ihave H := (own_split _ _) $$ Hu
  icases H with ⟨HH, HB⟩
  imod (Pipeline.fund_ghost (Pipeline.pin (pcfgs (F := F)) adm) EB cellOf_inj) $$ HB with ⟨Hc, Ht⟩
  imodintro
  isplitl [HH]; · iexact HH
  isplitl [Hc Ht]
  · unfold staging
    rw [bigSep_sep']
    ihave Hc := (Entails.of_eq (show (bigSep Finset.univ fun c : Dev nD => bigSep Finset.univ fun p : Fin 1 => (Pipeline.cellsGhost (Pipeline.pin (pcfgs (F := F)) adm) EB p c : sProp 𝕄))
        = bigSep Finset.univ fun c => Pipeline.cellsGhost (Pipeline.pin (pcfgs (F := F)) adm) EB 0 c from bigSep_congr fun _ _ => bigSep_univ_of_subsingleton (0 : Fin 1))) $$ Hc
    ihave Ht := (Entails.of_eq (show (bigSep Finset.univ fun c : Dev nD => bigSep Finset.univ fun p : Fin 1 => (Pipeline.toksInit (Pipeline.pin (pcfgs (F := F)) adm) EB p c : sProp 𝕄))
        = bigSep Finset.univ fun c => Pipeline.toksInit (Pipeline.pin (pcfgs (F := F)) adm) EB 0 c from bigSep_congr fun _ _ => bigSep_univ_of_subsingleton (0 : Fin 1))) $$ Ht
    isplitl [Hc]
    · iexact Hc
    · iexact Ht
  rw [show (bigSep Finset.univ fun thr : Thread nD τ => bigSep Finset.univ fun q : Fin 1 => (P (F := F) m).x q thr) = (BI.emp : sProp 𝕄) from
    (bigSep_congr fun _ _ => bigSep_univ_of_subsingleton (0 : Fin 1)).trans (bigSep_emp_const _)]
  iempintro

/-! ## @main -/

/-- The arrays at launch, before the calls, after them, and at the end. -/
def W0 (d : Dev nD) : Valuation τ sig (Elt F) := fun b => m (d, b)
def W5 (d : Dev nD) : Valuation τ sig (Elt F) := after5 (W0 m d)
def W7 (d : Dev nD) : Valuation τ sig (Elt F) :=
  Function.update (Function.update (W5 m d) (dr main_v5) (tileOut (m (xLoc d)) (words (F := F) (m (bLoc d)))))
    (dr main_v6) (regionOut (m (xLoc d)) (maskBytes (F := F) (m (bLoc d))) (m (pLoc d)))

/-- The result: the pipelined call's rows, and the tiles' over the last 4096. -/
def outVal (x : Vec F S65536x512 .f32) (b : Vec F S65536x512 .i1) (p : Vec F S65536x512 .f32) : Vec F S65536x512 .f32 :=
  putRows (regionOut x (maskBytes (F := F) b) p) (tileOut x (words (F := F) b))

theorem W5_x (d : Dev nD) : W5 m d (dr main_arg0) = m (xLoc d) := after5_ne (W0 m d) main_arg0 (by decide) (by decide) (by decide) (by decide) (by decide)
theorem W5_b (d : Dev nD) : W5 m d (dr main_arg1) = m (bLoc d) := after5_ne (W0 m d) main_arg1 (by decide) (by decide) (by decide) (by decide) (by decide)
theorem W5_o (d : Dev nD) : W5 m d (dr main_v5) = m (oLoc d) := after5_ne (W0 m d) main_v5 (by decide) (by decide) (by decide) (by decide) (by decide)
theorem W5_p (d : Dev nD) : W5 m d (dr main_v6) = m (pLoc d) := after5_ne (W0 m d) main_v6 (by decide) (by decide) (by decide) (by decide) (by decide)
theorem W5_y (d : Dev nD) : W5 m d (dr main_v1) = maskBytes (F := F) (m (bLoc d)) := after5_bytes (W0 m d)
theorem W5_w (d : Dev nD) : W5 m d (dr main_v4) = words (F := F) (m (bLoc d)) := after5_words (W0 m d)

theorem W7_p (d : Dev nD) : W7 m d (dr main_v6) = regionOut (m (xLoc d)) (maskBytes (F := F) (m (bLoc d))) (m (pLoc d)) := Function.update_self _ _ _
theorem W7_o (d : Dev nD) : W7 m d (dr main_v5) = tileOut (m (xLoc d)) (words (F := F) (m (bLoc d))) :=
  (Function.update_of_ne (show dr main_v5 ≠ dr main_v6 by decide) _ _).trans (Function.update_self _ _ _)
theorem W7_ne (d : Dev nD) (b : DevRef τ sig) (h0 : b ≠ dr main_v5) (h1 : b ≠ dr main_v6) : W7 m d b = W5 m d b :=
  (Function.update_of_ne h1 _ _).trans (Function.update_of_ne h0 _ _)

/-- What @main leaves: `x` and the mask as they were, and the result. -/
abbrev FIN (d : Dev nD) : sProp 𝕄 :=
  iprop((xLoc d ↦{fullShare} m (xLoc d)) ∗ (bLoc d ↦{fullShare} m (bLoc d)) ∗ rLoc d ↦{fullShare} outVal (m (xLoc d)) (m (bLoc d)) (m (pLoc d)))

theorem held_end (d : Dev nD) : (held (SparseCore.T d) arrays12 (after3 (W7 m d)) : sProp 𝕄) ⊢ FIN m d := by
  rw [held12, after3_out, W7_p, W7_o, after3_ne _ main_arg0 (by decide) (by decide) (by decide), after3_ne _ main_arg1 (by decide) (by decide) (by decide),
    W7_ne m d (dr main_arg0) (by decide) (by decide), W7_ne m d (dr main_arg1) (by decide) (by decide), W5_x, W5_b]
  iintro ⟨Hx, Hb, -, -, -, -, -, -, -, -, -, Hr⟩
  isplitl [Hx]; · iexact Hx
  isplitl [Hb]; · iexact Hb
  iexact Hr

/-- After its SparseCore call @main's thread owes nothing, and is given back as it was taken. -/
theorem thread_idle (d : Dev nD) : ((K (F := F)).tcSt EH d 1 : sProp 𝕄)
    ⊢ iprop(idle (F := F) (8 * 1) d ∗ (idle (F := F) (8 * 1) d -∗ (K (F := F)).tcSt EH d 1)) := by
  unfold SparseCore.Cfg.tcSt idle
  rw [show (K (F := F)).Otc d 1 = 0 by unfold SparseCore.Cfg.Otc; simp]
  iintro ⟨H, Hr⟩
  isplitl [H]; · iexact H
  iintro H
  isplitl [H]; · iexact H
  iexact Hr

/-- @main: the mask's words and bytes; the last 4096 rows by the tiles, the others by the pipelined call; the rows put
    together. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ staging d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) arrays12 (W0 m d) from unscoped_held d (W0 m d)]
  simp only [main, wp_bind, wp_pure]
  iintro ⟨#Hctx, Hst, ⟨Hb, Hheld, Hts, -⟩, HG⟩
  iapply (wp_hlo_within 𝒱 (SparseCore.T d) none Set.univ (op := opExt) (S := arrays12) sub_Ext (V := W0 m d)) $$ [Hb Hheld]
  · isplitl [Hb] <;> iassumption
  iintro ⟨Hb, Hheld⟩
  rw [wp_ret]; imodintro
  iapply (wp_hlo_within 𝒱 (SparseCore.T d) none Set.univ (op := opId) (S := arrays12) sub_Id (V := (opExt (F := F)).result (W0 m d))) $$ [Hb Hheld]
  · isplitl [Hb] <;> iassumption
  iintro ⟨Hb, Hheld⟩
  rw [wp_ret]; imodintro
  iapply (wp_hlo_within 𝒱 (SparseCore.T d) none Set.univ (op := opFour) (S := arrays12) sub_Four (V := (opId (F := F)).result ((opExt (F := F)).result (W0 m d)))) $$ [Hb Hheld]
  · isplitl [Hb] <;> iassumption
  iintro ⟨Hb, Hheld⟩
  rw [wp_ret]; imodintro
  iapply (wp_hlo_within 𝒱 (SparseCore.T d) none Set.univ (op := opTr) (S := arrays12) sub_Tr
    (V := (opFour (F := F)).result ((opId (F := F)).result ((opExt (F := F)).result (W0 m d))))) $$ [Hb Hheld]
  · isplitl [Hb] <;> iassumption
  iintro ⟨Hb, Hheld⟩
  rw [wp_ret]; imodintro
  iapply (wp_hlo_within 𝒱 (SparseCore.T d) none Set.univ (op := opWord) (S := arrays12) sub_Word
    (V := (opTr (F := F)).result ((opFour (F := F)).result ((opId (F := F)).result ((opExt (F := F)).result (W0 m d)))))) $$ [Hb Hheld]
  · isplitl [Hb] <;> iassumption
  iintro ⟨Hb, Hheld⟩
  rw [wp_ret]; imodintro
  ihave Hh := (Entails.of_eq ((show (held (SparseCore.T d) arrays12 ((opWord (F := F)).result ((opTr (F := F)).result ((opFour (F := F)).result
    ((opId (F := F)).result ((opExt (F := F)).result (W0 m d)))))) : sProp 𝕄) = held (SparseCore.T d) arrays12 (W5 m d) from rfl).trans (held12 d (W5 m d)))) $$ Hheld
  rw [W5_x, W5_y, W5_w, W5_o, W5_p]
  icases Hh with ⟨Hx, Hm, H0, Hy, H2, H3, Hw, Ho, Hp, Hc0, Hc1, Hr⟩
  ihave Hx := (pointsTo_split_subset (ℓ := xLoc d) (q := fullShare) (f := m (xLoc d)) (Finset.subset_univ (dealt xSet))).1 $$ Hx
  icases Hx with ⟨Hx, Hx'⟩
  ihave Hw := (pointsTo_split_subset (ℓ := wLoc d) (q := fullShare) (f := words (F := F) (m (bLoc d))) (Finset.subset_univ (dealt wSet))).1 $$ Hw
  icases Hw with ⟨Hw, Hw'⟩
  iapply ((K (F := F)).wp_run (D (F := F)) 𝒱 (EH := EH) (P := P m) κ d 0) $$ [Hst Hx Hx' Hm H0 Hy H2 H3 Hw Hw' Ho Hp Hc0 Hc1 Hr Hb Hts HG]
  isplitr; · iexact Hctx
  isplitl [Hst]; · iexact Hst
  isplitl [Hx Hw Ho]
  · rw [st0_eq]
    isplitl [Hx]; · iexact Hx
    isplitl [Hw]; · iexact Hw
    iexact Ho
  iintro ⟨Hst, Hdn⟩
  ihave Hdn' := (Entails.of_eq (dn0_eq m d)) $$ Hdn
  icases Hdn' with ⟨Hx, Hw, Ho⟩
  ihave Hx := (pointsTo_split_subset (ℓ := xLoc d) (q := fullShare) (f := m (xLoc d)) (Finset.subset_univ (dealt xSet))).2 $$ [Hx Hx']
  · isplitl [Hx] <;> iassumption
  ihave Hw := (pointsTo_split_subset (ℓ := wLoc d) (q := fullShare) (f := words (F := F) (m (bLoc d))) (Finset.subset_univ (dealt wSet))).2 $$ [Hw Hw']
  · isplitl [Hw] <;> iassumption
  ihave Hlev := (SparseCore.Cfg.ctx_levAts κ) $$ Hctx
  ihave Hst := (show ((K (F := F)).tcSt EH d ((0 : Fin 1).val + 1) : sProp 𝕄) ⊢ _ from thread_idle d) $$ Hst
  icases Hst with ⟨Hi, Hst⟩
  iapply (region_call (m (xLoc d)) (maskBytes (F := F) (m (bLoc d))) (m (pLoc d)) (8 * 1) d _)
  isplitr [Hb Hx Hy Hp Hi Hlev HG]
  rotate_left
  · isplitl [Hb]; · iexact Hb
    isplitl [Hx Hy Hp Hi]
    · isplitl [Hx Hy Hp]
      · unfold held3
        isplitl [Hx]; · iexact Hx
        isplitl [Hy]; · iexact Hy
        iexact Hp
      iexact Hi
    isplitl [Hlev]; · iexact Hlev
    iexact HG
  unfold held3
  iintro ⟨Hb, ⟨Hx, Hy, Hp⟩, Hi⟩
  ihave Hst := Hst $$ Hi
  iapply (wp_hlo_within 𝒱 (SparseCore.T d) none Set.univ (op := opRow) (S := arrays12) sub_Row (V := W7 m d)) $$ [Hb Hx Hm H0 Hy H2 H3 Hw Ho Hp Hc0 Hc1 Hr]
  · isplitl [Hb]; · iexact Hb
    rw [held12, W7_p, W7_o, W7_ne m d (dr main_arg0) (by decide) (by decide), W7_ne m d (dr main_arg1) (by decide) (by decide),
      W7_ne m d (dr main_v0) (by decide) (by decide), W7_ne m d (dr main_v1) (by decide) (by decide), W7_ne m d (dr main_v2) (by decide) (by decide),
      W7_ne m d (dr main_v3) (by decide) (by decide), W7_ne m d (dr main_v4) (by decide) (by decide), W7_ne m d (dr main_c) (by decide) (by decide),
      W7_ne m d (dr main_c_0) (by decide) (by decide), W7_ne m d (dr main_v7) (by decide) (by decide), W5_x, W5_y, W5_w]
    isplitl [Hx]; · iexact Hx
    isplitl [Hm]; · iexact Hm
    isplitl [H0]; · iexact H0
    isplitl [Hy]; · iexact Hy
    isplitl [H2]; · iexact H2
    isplitl [H3]; · iexact H3
    isplitl [Hw]; · iexact Hw
    isplitl [Ho]; · iexact Ho
    isplitl [Hp]; · iexact Hp
    isplitl [Hc0]; · iexact Hc0
    isplitl [Hc1]; · iexact Hc1
    iexact Hr
  iintro ⟨Hb, Hheld⟩
  rw [wp_ret]; imodintro
  iapply (wp_hlo_within 𝒱 (SparseCore.T d) none Set.univ (op := opCol) (S := arrays12) sub_Col (V := (opRow (F := F)).result (W7 m d))) $$ [Hb Hheld]
  · isplitl [Hb] <;> iassumption
  iintro ⟨Hb, Hheld⟩
  rw [wp_ret]; imodintro
  iapply (wp_hlo_within 𝒱 (SparseCore.T d) none Set.univ (op := opPut) (S := arrays12) sub_Put
    (V := (opCol (F := F)).result ((opRow (F := F)).result (W7 m d)))) $$ [Hb Hheld]
  · isplitl [Hb] <;> iassumption
  iintro ⟨Hb, Hheld⟩
  ihave Hf := (show (held (SparseCore.T d) arrays12 ((opPut (F := F)).result ((opCol (F := F)).result ((opRow (F := F)).result (W7 m d)))) : sProp 𝕄) ⊢ FIN m d
    from held_end m d) $$ Hheld
  rw [wp_ret]; imodintro; imodintro
  isplitl [Hst]; · iexact Hst
  isplitl [Hf]; · iexact Hf
  isplitl [Hb] <;> iassumption

/-! ## The whole run -/

/-- What a final state holds on device `d`: the arguments as they were, and the result. -/
def fq (d : Dev nD) (s' : Phys nD τ sig (Elt F)) : Prop :=
  s'.mem.mem (rLoc d) = outVal (m (xLoc d)) (m (bLoc d)) (m (pLoc d)) ∧ s'.mem.mem (xLoc d) = m (xLoc d) ∧ s'.mem.mem (bLoc d) = m (bLoc d)

theorem hfin (d : Dev nD) (s' : Phys nD τ sig (Elt F)) : iprop(FIN m d ∗ SI s') ⊢ (⌜fq m d s'⌝ : sProp 𝕄) := by
  iintro ⟨⟨Hx, Hb, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%hb, HSI, -⟩
  ihave H := (SI_pointsTo_agree (st := s') (ℓ := rLoc d) (I := Finset.univ) (q := fullShare) (f := outVal (m (xLoc d)) (m (bLoc d)) (m (pLoc d)))) $$ [HSI Hr]
  · isplitl [HSI] <;> iassumption
  icases H with %hr
  ipureintro
  exact ⟨funext fun i => hr i (Finset.mem_univ i), funext fun i => hx i (Finset.mem_univ i), funext fun i => hb i (Finset.mem_univ i)⟩

/-- What the run ends at: on every device the result and the arguments unchanged, and every semaphore at 0. -/
def QC : PUnit × MemSt nD τ sig (Elt F) → Prop := fun r =>
  (∀ c : Dev nD, r.2.mem (rLoc c) = outVal (m (xLoc c)) (m (bLoc c)) (m (pLoc c)) ∧ r.2.mem (xLoc c) = m (xLoc c) ∧ r.2.mem (bLoc c) = m (bLoc c))
    ∧ r.2.sem = fun _ => 0

/-- The program's run, over any float values. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => staging d) (FIN m) (u₀ (F := F)) (sep_elim_left.trans (hu₀ m)) (hmain m ρ) (fq m) (hfin m) (QC m) (fun _ h hz => ⟨h, hz⟩)

end Cert.Proof

end
-- ==== Proof.Value.lean ====
/-
  The result over the extended reals: every element is `x + 1` where the mask is set and `x` where it is not.
-/
module

public import proofs.«01_k».proof.Proof.Run
public import Idealize.ShloMosaic.Lib.BitcastConvert
public import Idealize.ShloMosaic.Lib.IdealHost
public import Idealize.ShloMosaic.Lib.Pipeline.Value
public import Idealize.ShloMosaic.Lib.Pointwise.ShapeOpsCore

@[expose] public section

noncomputable section

namespace Cert.Proof

open Cert.KernelIdeal Cert.KernelIdeal.Gen Cert.Proof.Tile
open Idealize.ShloMosaic

/-- The lowest bit of byte `q` of a word, as a word. -/
theorem bitOf_eq (q : ℕ) (hq : q < 4) (w : BitVec 32) (b : BitVec 1) (h : w.getLsbD (8 * q) = b.getLsbD 0) : bitOf q w = b.setWidth 32 := by
  unfold bitOf
  have e : IntOp.shrui .vector w (BitVec.ofNat 32 (8 * q)) = w >>> (8 * q) := by
    have : q = 0 ∨ q = 1 ∨ q = 2 ∨ q = 3 := by omega
    rcases this with rfl | rfl | rfl | rfl <;> rfl
  rw [e]
  apply BitVec.eq_of_getLsbD_eq
  intro i hi
  show (w >>> (8 * q) &&& 1#32).getLsbD i = _
  rw [BitVec.getLsbD_and, BitVec.getLsbD_ushiftRight, BitVec.getLsbD_setWidth, BitVec.getLsbD_one]
  by_cases h0 : i = 0
  · subst h0; simp [h]
  · simp [h0, BitVec.getLsbD_of_ge b i (by omega)]

/-- Byte `p` of the word at row `r`, column `c`: the mask's row `4 r + p`. -/
theorem fourBytes_at (b : Vec Ideal S65536x512 .i1) (j : S16384x512x4.Idx) (k : S65536x512.Idx)
    (h0 : (k 0).val = 4 * (j 0).val + (j 2).val) (h1 : (k 1).val = (j 1).val) : fourBytes (F := Ideal) b j = (b k : BitVec 1).setWidth 8 := by
  unfold fourBytes
  refine (transpose_apply [0, 2, 1] _ _ j (fun | 0 => j 0 | 1 => j 2 | 2 => j 1 : S16384x4x512.Idx) (fun a => by fin_cases a <;> rfl)).trans ?_
  refine (shapeCast_apply _ _ _ k ?_).trans rfl
  rw [Shape.rowMajor_val_two, Shape.rowMajor_val_three]
  show (k 0).val * 512 + (k 1).val = ((j 0).val * 4 + (j 2).val) * 512 + (j 1).val
  omega

/-- The bit the tiles take for a row of theirs is the mask's. -/
theorem bitOf_words (b : Vec Ideal S65536x512 .i1) (y : S4096x512.Idx) :
    bitOf ((y 0).val % 4) (words (F := Ideal) b (maskIx y)) = (b (rowIx y) : BitVec 1).setWidth 32 := by
  have hq : (y 0).val % 4 < 4 := Nat.mod_lt _ (by decide)
  refine bitOf_eq _ hq _ _ ?_
  unfold words
  rw [Host.bitcastConvertWiden_getLsbD _ _ _ _ _ _ (by omega)]
  rw [fourBytes_at b _ (rowIx y)]
  · rw [show 8 * ((y 0).val % 4) % 8 = 0 by omega, BitVec.getLsbD_setWidth]; simp
  · show 61440 + (y 0).val = 4 * (15360 + (y 0).val / 4) + 8 * ((y 0).val % 4) / 8
    omega
  · rfl

/-- `x + 1` where the mask is set, `x` elsewhere. -/
def masked (x : Vec Ideal S65536x512 .f32) (b : Vec Ideal S65536x512 .i1) : Vec Ideal S65536x512 .f32 :=
  fun k => if (b k : BitVec 1) = 1#1 then ((x k : EReal) + 1 : EReal) else x k

theorem one_bit (b : BitVec 1) : b = 0#1 ∨ b = 1#1 := by
  revert b; decide

theorem byteSum_masked (x : Vec Ideal S65536x512 .f32) (b : Vec Ideal S65536x512 .i1) (k : S65536x512.Idx) :
    byteSum x (maskBytes (F := Ideal) b) k = masked x b k := by
  show ((x k : EReal) + ((((b k : BitVec 1).setWidth 8).toInt : ℝ) : EReal) : EReal) = _
  unfold masked
  rcases one_bit (b k) with h | h <;> rw [h] <;> simp

theorem tileOut_masked (x : Vec Ideal S65536x512 .f32) (b : Vec Ideal S65536x512 .i1) (y : S4096x512.Idx) :
    tileOut x (words (F := Ideal) b) y = masked x b (rowIx y) := by
  unfold tileOut sumBit
  rw [bitOf_words]
  show ((x (rowIx y) : EReal) + ((((b (rowIx y) : BitVec 1).setWidth 32).toNat : ℝ) : EReal) : EReal) = _
  unfold masked
  rcases one_bit (b (rowIx y)) with h | h <;> rw [h] <;> simp

/-- Reading the rows put together. -/
theorem putRows_at (x : Vec Ideal S65536x512 .f32) (u : Vec Ideal S4096x512 .f32) (v : Vec Ideal S65536x512 .f32)
    (hx : ∀ k, covered k → x k = v k) (hu : ∀ y, u y = v (rowIx y)) : putRows x u = v := by
  funext k
  unfold putRows
  rw [Host.dynamicUpdateSlice_apply]
  have hk : (k 0).val < 65536 := (k 0).isLt
  have e0 : Host.clampedStart S65536x512 S4096x512 updateFits_S65536x512_S4096x512.1 ![61440, 0] 0 = 61440 := by decide
  have e1 : Host.clampedStart S65536x512 S4096x512 updateFits_S65536x512_S4096x512.1 ![61440, 0] 1 = 0 := by decide
  split
  · next h =>
    rw [hu]
    refine congrArg v (funext fun a => Fin.ext ?_)
    have h0 := (h 0).1
    rw [e0] at h0
    fin_cases a
    · show 61440 + ((k 0).val - Host.clampedStart S65536x512 S4096x512 updateFits_S65536x512_S4096x512.1 ![61440, 0] 0) = (k 0).val
      rw [e0]; omega
    · show (k 1).val - Host.clampedStart S65536x512 S4096x512 updateFits_S65536x512_S4096x512.1 ![61440, 0] 1 = (k 1).val
      rw [e1]; omega
  · next h =>
    refine hx k ?_
    show (k 0).val < 61440
    by_contra hc
    refine h fun a => ?_
    have hk1 : (k 1).val < 512 := (k 1).isLt
    fin_cases a
    · show Host.clampedStart S65536x512 S4096x512 updateFits_S65536x512_S4096x512.1 ![61440, 0] 0 ≤ (k 0).val
        ∧ (k 0).val < Host.clampedStart S65536x512 S4096x512 updateFits_S65536x512_S4096x512.1 ![61440, 0] 0 + 4096
      rw [e0]; omega
    · show Host.clampedStart S65536x512 S4096x512 updateFits_S65536x512_S4096x512.1 ![61440, 0] 1 ≤ (k 1).val
        ∧ (k 1).val < Host.clampedStart S65536x512 S4096x512 updateFits_S65536x512_S4096x512.1 ![61440, 0] 1 + 512
      rw [e1]; omega

/-- The program's result over the extended reals. -/
theorem outVal_masked (x : Vec Ideal S65536x512 .f32) (b : Vec Ideal S65536x512 .i1) (p : Vec Ideal S65536x512 .f32) :
    outVal (F := Ideal) x b p = masked x b := by
  unfold outVal
  refine putRows_at _ _ _ (fun k hk => ?_) (fun y => tileOut_masked x b y)
  unfold regionOut
  rw [if_pos hk]
  exact byteSum_masked x b k

end Cert.Proof

end
-- ==== Proof.SameText.lean ====
/-
  The kernel and the ideal program are one text: over any float values their definitions are equal.
-/
module

public import proofs.«01_k».proof.Defs
public import proofs.«01_k».proof.Proof.Gen.KernelIdeal
public import proofs.«01_k».proof.Proof.Gen.Kernel

@[expose] public section

set_option maxRecDepth 1000000

noncomputable section

namespace Cert.Proof

open Idealize.ShloMosaic

/-- The bodies the calls run. -/
theorem bodies_same (F : FTy → Type) [FloatOps F] : (Cert.Kernel.defs₀ (F := F)) = Cert.KernelIdeal.defs₀ (F := F) := by
  funext p ℓ a
  match p, ℓ, a with
  | .tc, (0 : Fin 2), _ => rfl
  | .tc, (1 : Fin 2), (_, _) => rfl
  | .scScalar _, _, _ => rfl
  | .scVector _ _, (0 : Fin 2), _ => rfl
  | .scVector _ _, (1 : Fin 2), _ => rfl

/-- All definitions of the two programs. -/
theorem defs_same (F : FTy → Type) [FloatOps F] : (Cert.Kernel.defs (F := F)) = Cert.KernelIdeal.defs (F := F) := by
  show Cert.KernelIdeal.sc.defs (Pipeline.defs Cert.KernelIdeal.pcfgs (Cert.Kernel.defs₀ (F := F)))
    = Cert.KernelIdeal.sc.defs (Pipeline.defs Cert.KernelIdeal.pcfgs Cert.KernelIdeal.defs₀)
  exact congrArg (fun D => Cert.KernelIdeal.sc.defs (Pipeline.defs Cert.KernelIdeal.pcfgs D)) (bodies_same F)

end Cert.Proof

end
-- ==== Proof.lean ====
/-
  The claims, put together.
-/
module

public import proofs.«01_k».proof.Proof.Value
public import proofs.«01_k».proof.Proof.SameText
public import proofs.«01_k».proof.Proof.Gen.ReferenceIdeal.Run
public import Idealize.ShloMosaic.Lib.Quiescent

@[expose] public section

noncomputable section

namespace Cert.Proof

open Idealize.ShloMosaic Idealize.SL.Sem

/-- The kernel over words ends with its arguments unchanged and every counter at zero: it is the ideal program's text. -/
theorem frame_kernel : Cert.quiescent_Kernel := fun m ρ _ => by
  rw [show Cert.Kernel.defs (F := Bits) = _ from defs_same Bits]
  exact (θ_run Cert.KernelIdeal.defs _ _).mono (fun _ h => ⟨fun c => (h.1 c).2, h.2⟩) (run_main (F := Bits) m ρ)

/-- The ideal program ends with its arguments unchanged and every counter at zero. -/
theorem frame_ideal : Cert.quiescent_KernelIdeal := fun m ρ _ =>
  (θ_run Cert.KernelIdeal.defs _ _).mono (fun _ h => ⟨fun c => (h.1 c).2, h.2⟩) (run_main (F := Ideal) m ρ)

/-- The reference ends with its arguments unchanged; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result is the same masked sum. -/
theorem reference_masked (x : Vec Ideal Cert.KernelIdeal.S65536x512 .f32) (b : Vec Ideal Cert.KernelIdeal.S65536x512 .i1) :
    select (b : Vec Ideal Cert.ReferenceIdeal.S65536x512 .i1) (addf (F := Ideal) (φ := .f32) x (broadcastInDim Cert.ReferenceIdeal.S65536x512 ![]
      Cert.ReferenceIdeal.Facts₀.bcast_S_S65536x512 (constant Cert.ReferenceIdeal.S_ .f32 0x3F800000#32))) x = masked x b := by
  funext k
  show Scalar.select (b k) ((x k : EReal) + Ideal.ofBits .f32 0x3F800000#32) (x k) = _
  rw [Ideal.ofBits_one_f32]
  unfold masked
  rcases one_bit (b k) with h | h <;> rw [h] <;> rfl

/-- Kernel and reference end with equal results, over the extended reals. -/
theorem same_values : Cert.algebraic_KernelIdeal_ReferenceIdeal := fun m ρ m' ρ' _ hag => by
  refine ⟨fun c => masked (m (xLoc c)) (m (bLoc c)), ?_, ?_⟩
  · exact (θ_run Cert.KernelIdeal.defs _ _).mono (fun _ h c => ⟨(h.1 c).1.trans (outVal_masked _ _ _), (h.1 c).2⟩) (run_main (F := Ideal) m ρ)
  · refine (θ_run Cert.ReferenceIdeal.defs _ _).mono (fun _ h c => ⟨(h c).1.trans ?_, (h c).2⟩) (Cert.ReferenceIdeal.Value.run (F := Ideal) m' ρ')
    rw [(hag c).1, (hag c).2]
    exact reference_masked (m (xLoc c)) (m (bLoc c))

/-- The five claims. -/
theorem claim : Cert.Claim :=
  ⟨Cert.Kernel.Gen.facts, Cert.KernelIdeal.Gen.facts, Cert.ReferenceIdeal.Gen.facts,
    frame_kernel, frame_ideal, frame_reference, trivial, same_values⟩

end Cert.Proof

end
